-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x160x160x160 : Shape := ⟨5, ![4, 1, 160, 160, 160]⟩
abbrev S_ : Shape := ⟨0, ![]⟩
abbrev S4x160x160x160 : Shape := ⟨4, ![4, 160, 160, 160]⟩
abbrev S1x32x160x160 : Shape := ⟨4, ![1, 32, 160, 160]⟩
abbrev S5x160x160 : Shape := ⟨3, ![5, 160, 160]⟩
abbrev S32x160x160 : Shape := ⟨3, ![32, 160, 160]⟩
abbrev S32x1x1 : Shape := ⟨3, ![32, 1, 1]⟩
abbrev S16x160x160 : Shape := ⟨3, ![16, 160, 160]⟩
abbrev S8x160x160 : Shape := ⟨3, ![8, 160, 160]⟩
abbrev S4x160x160 : Shape := ⟨3, ![4, 160, 160]⟩
abbrev S2x160x160 : Shape := ⟨3, ![2, 160, 160]⟩
abbrev S1x160x160 : Shape := ⟨3, ![1, 160, 160]⟩
abbrev S160x160 : Shape := ⟨2, ![160, 160]⟩
abbrev S5x1x160 : Shape := ⟨3, ![5, 1, 160]⟩
abbrev S5x159x160 : Shape := ⟨3, ![5, 159, 160]⟩
abbrev S5x160x1 : Shape := ⟨3, ![5, 160, 1]⟩
abbrev S5x160x159 : Shape := ⟨3, ![5, 160, 159]⟩

abbrev nBuf : Space → Nat
  | .hbm => 7
  | .vmem => 7
  | .smem => 0
  | _ => 0

abbrev bufTy : (tb : Table) → Fin (tcTables nBuf tb) → BufTy
  | .hbm, ⟨0, _⟩ => ⟨S4x1x160x160x160, .f32⟩
  | .hbm, ⟨1, _⟩ => ⟨S4x1x160x160x160, .f32⟩
  | .hbm, ⟨2, _⟩ => ⟨S_, .i32⟩
  | .hbm, ⟨3, _⟩ => ⟨S4x160x160x160, .f32⟩
  | .hbm, ⟨4, _⟩ => ⟨S4x160x160x160, .f32⟩
  | .hbm, ⟨5, _⟩ => ⟨S4x160x160x160, .f32⟩
  | .hbm, ⟨6, _⟩ => ⟨S4x1x160x160x160, .f32⟩
  | .local _ .vmem, ⟨0, _⟩ => ⟨S1x32x160x160, .f32⟩
  | .local _ .vmem, ⟨1, _⟩ => ⟨S1x32x160x160, .f32⟩
  | .local _ .vmem, ⟨2, _⟩ => ⟨S1x32x160x160, .f32⟩
  | .local _ .vmem, ⟨3, _⟩ => ⟨S1x32x160x160, .f32⟩
  | .local _ .vmem, ⟨4, _⟩ => ⟨S1x32x160x160, .f32⟩
  | .local _ .vmem, ⟨5, _⟩ => ⟨S1x32x160x160, .f32⟩
  | .local _ .vmem, ⟨6, _⟩ => ⟨S5x160x160, .i32⟩
  | _, _ => ⟨S4x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg1 : BitVec 32 := BitVec.ofNat 32 (i 1).val
  let c5_i32 : BitVec 32 := 5#32
  let v10 : BitVec 1 := Scalar.cmpi .slt arg1 c5_i32
  let v11 : BitVec 32 := Scalar.extui v10
  let c0_i32_3 : BitVec 32 := 0#32
  let v12 : BitVec 1 := Scalar.cmpi .ne v11 c0_i32_3
  v12

def k0_off1 (i : grid0.Coords) : Fin 3 → Nat :=
  let c4_i32_19 : BitVec 32 := 4#32
  let arg1 : BitVec 32 := BitVec.ofNat 32 (i 1).val
  let v57 : BitVec 32 := Scalar.subi c4_i32_19 arg1
  let v58 : Index := Scalar.indexCast v57
  let c0_20 : Index := 0#32
  let c0_21 : Index := 0#32
  ![v58.toNat, 0, 0]
def k0_cond3 (i : grid0.Coords) : BitVec 1 :=
  let arg1 : BitVec 32 := BitVec.ofNat 32 (i 1).val
  let c5_i32_5 : BitVec 32 := 5#32
  let v16 : BitVec 1 := Scalar.cmpi .sge arg1 c5_i32_5
  let v17 : BitVec 32 := Scalar.extui v16
  let c0_i32_6 : BitVec 32 := 0#32
  let v18 : BitVec 1 := Scalar.cmpi .ne v17 c0_i32_6
  v18

def k0_off2 (i : grid0.Coords) : Fin 3 → Nat :=
  let arg1 : BitVec 32 := BitVec.ofNat 32 (i 1).val
  let c5_i32_7 : BitVec 32 := 5#32
  let v19 : BitVec 32 := Scalar.subi arg1 c5_i32_7
  let v20 : Index := Scalar.indexCast v19
  let c0 : Index := 0#32
  let c0_8 : Index := 0#32
  ![v20.toNat, 0, 0]
def cc0_transform_0 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c1_i32 : BitVec 32 := 1#32
  let v1 : BitVec 32 := Scalar.addi arg0 c1_i32
  let c3_i32 : BitVec 32 := 3#32
  let v2 : BitVec 32 := Scalar.minsi v1 c3_i32
  let v3 : BitVec 32 := Scalar.select v0 arg0 v2
  let c4_i32 : BitVec 32 := 4#32
  let v4 : BitVec 32 := Scalar.subi c4_i32 arg1
  let c4_i32_0 : BitVec 32 := 4#32
  let v5 : BitVec 32 := Scalar.select v0 v4 c4_i32_0
  let c0_i32 : BitVec 32 := 0#32
  let c0_i32_1 : BitVec 32 := 0#32
  let c0_i32_2 : BitVec 32 := 0#32
  ![v3.toNat, v5.toNat, c0_i32.toNat, c0_i32_1.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c1_i32 : BitVec 32 := 1#32
  let v1 : BitVec 32 := Scalar.addi arg0 c1_i32
  let c3_i32 : BitVec 32 := 3#32
  let v2 : BitVec 32 := Scalar.minsi v1 c3_i32
  let v3 : BitVec 32 := Scalar.select v0 arg0 v2
  let c4_i32 : BitVec 32 := 4#32
  let v4 : BitVec 32 := Scalar.subi c4_i32 arg1
  let c4_i32_0 : BitVec 32 := 4#32
  let v5 : BitVec 32 := Scalar.select v0 v4 c4_i32_0
  let c0_i32 : BitVec 32 := 0#32
  let c0_i32_1 : BitVec 32 := 0#32
  let c0_i32_2 : BitVec 32 := 0#32
  ![v3.toNat, v5.toNat, c0_i32.toNat, c0_i32_1.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

abbrev stage0_0 : Fin 2 → Memref sig .tc .vmem S1x32x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x160x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x1x160x160x160 : Shape := ⟨5, ![4, 1, 160, 160, 160]⟩
abbrev S_ : Shape := ⟨0, ![]⟩
abbrev S4x1x162x162x162 : Shape := ⟨5, ![4, 1, 162, 162, 162]⟩
abbrev S4 : Shape := ⟨1, ![4]⟩
abbrev S4x1x1x1x1 : Shape := ⟨5, ![4, 1, 1, 1, 1]⟩

abbrev nBuf : Space → Nat
  | .hbm => 768
  | .vmem => 0
  | .smem => 0
  | _ => 0

abbrev hbmTy0_0 (i : Nat) : BufTy := match i % 128 with
  | 0 => ⟨S4x1x160x160x160, .f32⟩
  | 1 => ⟨S4x1x160x160x160, .f32⟩
  | 2 => ⟨S_, .i32⟩
  | 3 => ⟨S_, .f32⟩
  | 4 => ⟨S4x1x160x160x160, .f32⟩
  | 5 => ⟨S4x1x160x160x160, .i1⟩
  | 6 => ⟨S_, .f32⟩
  | 7 => ⟨S4x1x160x160x160, .f32⟩
  | 8 => ⟨S4x1x160x160x160, .i1⟩
  | 9 => ⟨S_, .f32⟩
  | 10 => ⟨S4x1x160x160x160, .f32⟩
  | 11 => ⟨S4x1x160x160x160, .f32⟩
  | 12 => ⟨S_, .f32⟩
  | 13 => ⟨S4x1x160x160x160, .f32⟩
  | 14 => ⟨S4x1x160x160x160, .f32⟩
  | 15 => ⟨S_, .f32⟩
  | 16 => ⟨S4x1x160x160x160, .f32⟩
  | 17 => ⟨S4x1x160x160x160, .i1⟩
  | 18 => ⟨S4x1x160x160x160, .f32⟩
  | 19 => ⟨S_, .i32⟩
  | 20 => ⟨S_, .f32⟩
  | 21 => ⟨S4x1x162x162x162, .f32⟩
  | 22 => ⟨S4x1x160x160x160, .f32⟩
  | 23 => ⟨S4x1x160x160x160, .f32⟩
  | 24 => ⟨S4x1x160x160x160, .f32⟩
  | 25 => ⟨S4x1x160x160x160, .f32⟩
  | 26 => ⟨S4x1x160x160x160, .f32⟩
  | 27 => ⟨S4x1x160x160x160, .f32⟩
  | 28 => ⟨S4x1x160x160x160, .f32⟩
  | 29 => ⟨S4x1x160x160x160, .f32⟩
  | 30 => ⟨S4x1x160x160x160, .f32⟩
  | 31 => ⟨S4x1x160x160x160, .f32⟩
  | 32 => ⟨S4x1x160x160x160, .f32⟩
  | 33 => ⟨S4x1x160x160x160, .f32⟩
  | 34 => ⟨S4x1x160x160x160, .f32⟩
  | 35 => ⟨S4x1x160x160x160, .f32⟩
  | 36 => ⟨S4x1x160x160x160, .f32⟩
  | 37 => ⟨S4x1x160x160x160, .f32⟩
  | 38 => ⟨S4x1x160x160x160, .f32⟩
  | 39 => ⟨S_, .i32⟩
  | 40 => ⟨S_, .f32⟩
  | 41 => ⟨S4x1x162x162x162, .f32⟩
  | 42 => ⟨S4x1x160x160x160, .f32⟩
  | 43 => ⟨S4x1x160x160x160, .f32⟩
  | 44 => ⟨S4x1x160x160x160, .f32⟩
  | 45 => ⟨S4x1x160x160x160, .f32⟩
  | 46 => ⟨S4x1x160x160x160, .f32⟩
  | 47 => ⟨S4x1x160x160x160, .f32⟩
  | 48 => ⟨S4x1x160x160x160, .f32⟩
  | 49 => ⟨S4x1x160x160x160, .f32⟩
  | 50 => ⟨S4x1x160x160x160, .f32⟩
  | 51 => ⟨S4x1x160x160x160, .f32⟩
  | 52 => ⟨S4x1x160x160x160, .f32⟩
  | 53 => ⟨S4x1x160x160x160, .f32⟩
  | 54 => ⟨S4x1x160x160x160, .f32⟩
  | 55 => ⟨S4x1x160x160x160, .f32⟩
  | 56 => ⟨S4x1x160x160x160, .f32⟩
  | 57 => ⟨S4x1x160x160x160, .f32⟩
  | 58 => ⟨S4x1x160x160x160, .f32⟩
  | 59 => ⟨S_, .i32⟩
  | 60 => ⟨S_, .f32⟩
  | 61 => ⟨S4x1x162x162x162, .f32⟩
  | 62 => ⟨S4x1x160x160x160, .f32⟩
  | 63 => ⟨S4x1x160x160x160, .f32⟩
  | 64 => ⟨S4x1x160x160x160, .f32⟩
  | 65 => ⟨S4x1x160x160x160, .f32⟩
  | 66 => ⟨S4x1x160x160x160, .f32⟩
  | 67 => ⟨S4x1x160x160x160, .f32⟩
  | 68 => ⟨S4x1x160x160x160, .f32⟩
  | 69 => ⟨S4x1x160x160x160, .f32⟩
  | 70 => ⟨S4x1x160x160x160, .f32⟩
  | 71 => ⟨S4x1x160x160x160, .f32⟩
  | 72 => ⟨S4x1x160x160x160, .f32⟩
  | 73 => ⟨S4x1x160x160x160, .f32⟩
  | 74 => ⟨S4x1x160x160x160, .f32⟩
  | 75 => ⟨S4x1x160x160x160, .f32⟩
  | 76 => ⟨S4x1x160x160x160, .f32⟩
  | 77 => ⟨S4x1x160x160x160, .f32⟩
  | 78 => ⟨S4x1x160x160x160, .f32⟩
  | 79 => ⟨S_, .i32⟩
  | 80 => ⟨S_, .f32⟩
  | 81 => ⟨S4x1x162x162x162, .f32⟩
  | 82 => ⟨S4x1x160x160x160, .f32⟩
  | 83 => ⟨S4x1x160x160x160, .f32⟩
  | 84 => ⟨S4x1x160x160x160, .f32⟩
  | 85 => ⟨S4x1x160x160x160, .f32⟩
  | 86 => ⟨S4x1x160x160x160, .f32⟩
  | 87 => ⟨S4x1x160x160x160, .f32⟩
  | 88 => ⟨S4x1x160x160x160, .f32⟩
  | 89 => ⟨S4x1x160x160x160, .f32⟩
  | 90 => ⟨S4x1x160x160x160, .f32⟩
  | 91 => ⟨S4x1x160x160x160, .f32⟩
  | 92 => ⟨S4x1x160x160x160, .f32⟩
  | 93 => ⟨S4x1x160x160x160, .f32⟩
  | 94 => ⟨S4x1x160x160x160, .f32⟩
  | 95 => ⟨S4x1x160x160x160, .f32⟩
  | 96 => ⟨S4x1x160x160x160, .f32⟩
  | 97 => ⟨S4x1x160x160x160, .f32⟩
  | 98 => ⟨S4x1x160x160x160, .f32⟩
  | 99 => ⟨S_, .i32⟩
  | 100 => ⟨S_, .f32⟩
  | 101 => ⟨S4x1x162x162x162, .f32⟩
  | 102 => ⟨S4x1x160x160x160, .f32⟩
  | 103 => ⟨S4x1x160x160x160, .f32⟩
  | 104 => ⟨S4x1x160x160x160, .f32⟩
  | 105 => ⟨S4x1x160x160x160, .f32⟩
  | 106 => ⟨S4x1x160x160x160, .f32⟩
  | 107 => ⟨S4x1x160x160x160, .f32⟩
  | 108 => ⟨S4x1x160x160x160, .f32⟩
  | 109 => ⟨S4x1x160x160x160, .f32⟩
  | 110 => ⟨S4x1x160x160x160, .f32⟩
  | 111 => ⟨S4x1x160x160x160, .f32⟩
  | 112 => ⟨S4x1x160x160x160, .f32⟩
  | 113 => ⟨S4x1x160x160x160, .f32⟩
  | 114 => ⟨S4x1x160x160x160, .f32⟩
  | 115 => ⟨S4x1x160x160x160, .f32⟩
  | 116 => ⟨S4x1x160x160x160, .f32⟩
  | 117 => ⟨S4x1x160x160x160, .f32⟩
  | 118 => ⟨S4x1x160x160x160, .f32⟩
  | 119 => ⟨S_, .i32⟩
  | 120 => ⟨S_, .f32⟩
  | 121 => ⟨S4x1x162x162x162, .f32⟩
  | 122 => ⟨S4x1x160x160x160, .f32⟩
  | 123 => ⟨S4x1x160x160x160, .f32⟩
  | 124 => ⟨S4x1x160x160x160, .f32⟩
  | 125 => ⟨S4x1x160x160x160, .f32⟩
  | 126 => ⟨S4x1x160x160x160, .f32⟩
  | 127 => ⟨S4x1x160x160x160, .f32⟩
  | _ => ⟨S4x1x160x160x160, .f32⟩

abbrev hbmTy0_1 (i : Nat) : BufTy := match i % 128 with
  | 0 => ⟨S4x1x160x160x160, .f32⟩
  | 1 => ⟨S4x1x160x160x160, .f32⟩
  | 2 => ⟨S4x1x160x160x160, .f32⟩
  | 3 => ⟨S4x1x160x160x160, .f32⟩
  | 4 => ⟨S4x1x160x160x160, .f32⟩
  | 5 => ⟨S4x1x160x160x160, .f32⟩
  | 6 => ⟨S4x1x160x160x160, .f32⟩
  | 7 => ⟨S4x1x160x160x160, .f32⟩
  | 8 => ⟨S4x1x160x160x160, .f32⟩
  | 9 => ⟨S4x1x160x160x160, .f32⟩
  | 10 => ⟨S4x1x160x160x160, .f32⟩
  | 11 => ⟨S_, .i32⟩
  | 12 => ⟨S_, .f32⟩
  | 13 => ⟨S4x1x162x162x162, .f32⟩
  | 14 => ⟨S4x1x160x160x160, .f32⟩
  | 15 => ⟨S4x1x160x160x160, .f32⟩
  | 16 => ⟨S4x1x160x160x160, .f32⟩
  | 17 => ⟨S4x1x160x160x160, .f32⟩
  | 18 => ⟨S4x1x160x160x160, .f32⟩
  | 19 => ⟨S4x1x160x160x160, .f32⟩
  | 20 => ⟨S4x1x160x160x160, .f32⟩
  | 21 => ⟨S4x1x160x160x160, .f32⟩
  | 22 => ⟨S4x1x160x160x160, .f32⟩
  | 23 => ⟨S4x1x160x160x160, .f32⟩
  | 24 => ⟨S4x1x160x160x160, .f32⟩
  | 25 => ⟨S4x1x160x160x160, .f32⟩
  | 26 => ⟨S4x1x160x160x160, .f32⟩
  | 27 => ⟨S4x1x160x160x160, .f32⟩
  | 28 => ⟨S4x1x160x160x160, .f32⟩
  | 29 => ⟨S4x1x160x160x160, .f32⟩
  | 30 => ⟨S4x1x160x160x160, .f32⟩
  | 31 => ⟨S_, .i32⟩
  | 32 => ⟨S_, .f32⟩
  | 33 => ⟨S4x1x162x162x162, .f32⟩
  | 34 => ⟨S4x1x160x160x160, .f32⟩
  | 35 => ⟨S4x1x160x160x160, .f32⟩
  | 36 => ⟨S4x1x160x160x160, .f32⟩
  | 37 => ⟨S4x1x160x160x160, .f32⟩
  | 38 => ⟨S4x1x160x160x160, .f32⟩
  | 39 => ⟨S4x1x160x160x160, .f32⟩
  | 40 => ⟨S4x1x160x160x160, .f32⟩
  | 41 => ⟨S4x1x160x160x160, .f32⟩
  | 42 => ⟨S4x1x160x160x160, .f32⟩
  | 43 => ⟨S4x1x160x160x160, .f32⟩
  | 44 => ⟨S4x1x160x160x160, .f32⟩
  | 45 => ⟨S4x1x160x160x160, .f32⟩
  | 46 => ⟨S4x1x160x160x160, .f32⟩
  | 47 => ⟨S4x1x160x160x160, .f32⟩
  | 48 => ⟨S4x1x160x160x160, .f32⟩
  | 49 => ⟨S4x1x160x160x160, .f32⟩
  | 50 => ⟨S4x1x160x160x160, .f32⟩
  | 51 => ⟨S_, .i32⟩
  | 52 => ⟨S_, .f32⟩
  | 53 => ⟨S4x1x162x162x162, .f32⟩
  | 54 => ⟨S4x1x160x160x160, .f32⟩
  | 55 => ⟨S4x1x160x160x160, .f32⟩
  | 56 => ⟨S4x1x160x160x160, .f32⟩
  | 57 => ⟨S4x1x160x160x160, .f32⟩
  | 58 => ⟨S4x1x160x160x160, .f32⟩
  | 59 => ⟨S4x1x160x160x160, .f32⟩
  | 60 => ⟨S4x1x160x160x160, .f32⟩
  | 61 => ⟨S4x1x160x160x160, .f32⟩
  | 62 => ⟨S4x1x160x160x160, .f32⟩
  | 63 => ⟨S4x1x160x160x160, .f32⟩
  | 64 => ⟨S4x1x160x160x160, .f32⟩
  | 65 => ⟨S4x1x160x160x160, .f32⟩
  | 66 => ⟨S4x1x160x160x160, .f32⟩
  | 67 => ⟨S4x1x160x160x160, .f32⟩
  | 68 => ⟨S4x1x160x160x160, .f32⟩
  | 69 => ⟨S4x1x160x160x160, .f32⟩
  | 70 => ⟨S4x1x160x160x160, .f32⟩
  | 71 => ⟨S_, .i32⟩
  | 72 => ⟨S_, .f32⟩
  | 73 => ⟨S4x1x162x162x162, .f32⟩
  | 74 => ⟨S4x1x160x160x160, .f32⟩
  | 75 => ⟨S4x1x160x160x160, .f32⟩
  | 76 => ⟨S4x1x160x160x160, .f32⟩
  | 77 => ⟨S4x1x160x160x160, .f32⟩
  | 78 => ⟨S4x1x160x160x160, .f32⟩
  | 79 => ⟨S4x1x160x160x160, .f32⟩
  | 80 => ⟨S4x1x160x160x160, .f32⟩
  | 81 => ⟨S4x1x160x160x160, .f32⟩
  | 82 => ⟨S4x1x160x160x160, .f32⟩
  | 83 => ⟨S4x1x160x160x160, .f32⟩
  | 84 => ⟨S4x1x160x160x160, .f32⟩
  | 85 => ⟨S4x1x160x160x160, .f32⟩
  | 86 => ⟨S4x1x160x160x160, .f32⟩
  | 87 => ⟨S4x1x160x160x160, .f32⟩
  | 88 => ⟨S4x1x160x160x160, .f32⟩
  | 89 => ⟨S4x1x160x160x160, .f32⟩
  | 90 => ⟨S4x1x160x160x160, .f32⟩
  | 91 => ⟨S_, .i32⟩
  | 92 => ⟨S_, .f32⟩
  | 93 => ⟨S4x1x162x162x162, .f32⟩
  | 94 => ⟨S4x1x160x160x160, .f32⟩
  | 95 => ⟨S4x1x160x160x160, .f32⟩
  | 96 => ⟨S4x1x160x160x160, .f32⟩
  | 97 => ⟨S4x1x160x160x160, .f32⟩
  | 98 => ⟨S4x1x160x160x160, .f32⟩
  | 99 => ⟨S4x1x160x160x160, .f32⟩
  | 100 => ⟨S4x1x160x160x160, .f32⟩
  | 101 => ⟨S4x1x160x160x160, .f32⟩
  | 102 => ⟨S4x1x160x160x160, .f32⟩
  | 103 => ⟨S4x1x160x160x160, .f32⟩
  | 104 => ⟨S4x1x160x160x160, .f32⟩
  | 105 => ⟨S4x1x160x160x160, .f32⟩
  | 106 => ⟨S4x1x160x160x160, .f32⟩
  | 107 => ⟨S4x1x160x160x160, .f32⟩
  | 108 => ⟨S4x1x160x160x160, .f32⟩
  | 109 => ⟨S4x1x160x160x160, .f32⟩
  | 110 => ⟨S4x1x160x160x160, .f32⟩
  | 111 => ⟨S_, .i32⟩
  | 112 => ⟨S_, .f32⟩
  | 113 => ⟨S4x1x162x162x162, .f32⟩
  | 114 => ⟨S4x1x160x160x160, .f32⟩
  | 115 => ⟨S4x1x160x160x160, .f32⟩
  | 116 => ⟨S4x1x160x160x160, .f32⟩
  | 117 => ⟨S4x1x160x160x160, .f32⟩
  | 118 => ⟨S4x1x160x160x160, .f32⟩
  | 119 => ⟨S4x1x160x160x160, .f32⟩
  | 120 => ⟨S4x1x160x160x160, .f32⟩
  | 121 => ⟨S4x1x160x160x160, .f32⟩
  | 122 => ⟨S4x1x160x160x160, .f32⟩
  | 123 => ⟨S4x1x160x160x160, .f32⟩
  | 124 => ⟨S4x1x160x160x160, .f32⟩
  | 125 => ⟨S4x1x160x160x160, .f32⟩
  | 126 => ⟨S4x1x160x160x160, .f32⟩
  | 127 => ⟨S4x1x160x160x160, .f32⟩
  | _ => ⟨S4x1x160x160x160, .f32⟩

abbrev hbmTy0_2 (i : Nat) : BufTy := match i % 128 with
  | 0 => ⟨S4x1x160x160x160, .f32⟩
  | 1 => ⟨S4x1x160x160x160, .f32⟩
  | 2 => ⟨S4x1x160x160x160, .f32⟩
  | 3 => ⟨S_, .i32⟩
  | 4 => ⟨S_, .f32⟩
  | 5 => ⟨S4x1x162x162x162, .f32⟩
  | 6 => ⟨S4x1x160x160x160, .f32⟩
  | 7 => ⟨S4x1x160x160x160, .f32⟩
  | 8 => ⟨S4x1x160x160x160, .f32⟩
  | 9 => ⟨S4x1x160x160x160, .f32⟩
  | 10 => ⟨S4x1x160x160x160, .f32⟩
  | 11 => ⟨S4x1x160x160x160, .f32⟩
  | 12 => ⟨S4x1x160x160x160, .f32⟩
  | 13 => ⟨S4x1x160x160x160, .f32⟩
  | 14 => ⟨S4x1x160x160x160, .f32⟩
  | 15 => ⟨S4x1x160x160x160, .f32⟩
  | 16 => ⟨S4x1x160x160x160, .f32⟩
  | 17 => ⟨S4x1x160x160x160, .f32⟩
  | 18 => ⟨S4x1x160x160x160, .f32⟩
  | 19 => ⟨S4x1x160x160x160, .f32⟩
  | 20 => ⟨S4x1x160x160x160, .f32⟩
  | 21 => ⟨S4x1x160x160x160, .f32⟩
  | 22 => ⟨S4x1x160x160x160, .f32⟩
  | 23 => ⟨S_, .i32⟩
  | 24 => ⟨S_, .f32⟩
  | 25 => ⟨S4x1x162x162x162, .f32⟩
  | 26 => ⟨S4x1x160x160x160, .f32⟩
  | 27 => ⟨S4x1x160x160x160, .f32⟩
  | 28 => ⟨S4x1x160x160x160, .f32⟩
  | 29 => ⟨S4x1x160x160x160, .f32⟩
  | 30 => ⟨S4x1x160x160x160, .f32⟩
  | 31 => ⟨S4x1x160x160x160, .f32⟩
  | 32 => ⟨S4x1x160x160x160, .f32⟩
  | 33 => ⟨S4x1x160x160x160, .f32⟩
  | 34 => ⟨S4x1x160x160x160, .f32⟩
  | 35 => ⟨S4x1x160x160x160, .f32⟩
  | 36 => ⟨S4x1x160x160x160, .f32⟩
  | 37 => ⟨S4x1x160x160x160, .f32⟩
  | 38 => ⟨S4x1x160x160x160, .f32⟩
  | 39 => ⟨S4x1x160x160x160, .f32⟩
  | 40 => ⟨S4x1x160x160x160, .f32⟩
  | 41 => ⟨S4x1x160x160x160, .f32⟩
  | 42 => ⟨S4x1x160x160x160, .f32⟩
  | 43 => ⟨S_, .i32⟩
  | 44 => ⟨S_, .f32⟩
  | 45 => ⟨S4x1x162x162x162, .f32⟩
  | 46 => ⟨S4x1x160x160x160, .f32⟩
  | 47 => ⟨S4x1x160x160x160, .f32⟩
  | 48 => ⟨S4x1x160x160x160, .f32⟩
  | 49 => ⟨S4x1x160x160x160, .f32⟩
  | 50 => ⟨S4x1x160x160x160, .f32⟩
  | 51 => ⟨S4x1x160x160x160, .f32⟩
  | 52 => ⟨S4x1x160x160x160, .f32⟩
  | 53 => ⟨S4x1x160x160x160, .f32⟩
  | 54 => ⟨S4x1x160x160x160, .f32⟩
  | 55 => ⟨S4x1x160x160x160, .f32⟩
  | 56 => ⟨S4x1x160x160x160, .f32⟩
  | 57 => ⟨S4x1x160x160x160, .f32⟩
  | 58 => ⟨S4x1x160x160x160, .f32⟩
  | 59 => ⟨S4x1x160x160x160, .f32⟩
  | 60 => ⟨S4x1x160x160x160, .f32⟩
  | 61 => ⟨S4x1x160x160x160, .f32⟩
  | 62 => ⟨S4x1x160x160x160, .f32⟩
  | 63 => ⟨S_, .i32⟩
  | 64 => ⟨S_, .f32⟩
  | 65 => ⟨S4x1x162x162x162, .f32⟩
  | 66 => ⟨S4x1x160x160x160, .f32⟩
  | 67 => ⟨S4x1x160x160x160, .f32⟩
  | 68 => ⟨S4x1x160x160x160, .f32⟩
  | 69 => ⟨S4x1x160x160x160, .f32⟩
  | 70 => ⟨S4x1x160x160x160, .f32⟩
  | 71 => ⟨S4x1x160x160x160, .f32⟩
  | 72 => ⟨S4x1x160x160x160, .f32⟩
  | 73 => ⟨S4x1x160x160x160, .f32⟩
  | 74 => ⟨S4x1x160x160x160, .f32⟩
  | 75 => ⟨S4x1x160x160x160, .f32⟩
  | 76 => ⟨S4x1x160x160x160, .f32⟩
  | 77 => ⟨S4x1x160x160x160, .f32⟩
  | 78 => ⟨S4x1x160x160x160, .f32⟩
  | 79 => ⟨S4x1x160x160x160, .f32⟩
  | 80 => ⟨S4x1x160x160x160, .f32⟩
  | 81 => ⟨S4x1x160x160x160, .f32⟩
  | 82 => ⟨S4x1x160x160x160, .f32⟩
  | 83 => ⟨S_, .i32⟩
  | 84 => ⟨S_, .f32⟩
  | 85 => ⟨S4x1x162x162x162, .f32⟩
  | 86 => ⟨S4x1x160x160x160, .f32⟩
  | 87 => ⟨S4x1x160x160x160, .f32⟩
  | 88 => ⟨S4x1x160x160x160, .f32⟩
  | 89 => ⟨S4x1x160x160x160, .f32⟩
  | 90 => ⟨S4x1x160x160x160, .f32⟩
  | 91 => ⟨S4x1x160x160x160, .f32⟩
  | 92 => ⟨S4x1x160x160x160, .f32⟩
  | 93 => ⟨S4x1x160x160x160, .f32⟩
  | 94 => ⟨S4x1x160x160x160, .f32⟩
  | 95 => ⟨S4x1x160x160x160, .f32⟩
  | 96 => ⟨S4x1x160x160x160, .f32⟩
  | 97 => ⟨S4x1x160x160x160, .f32⟩
  | 98 => ⟨S4x1x160x160x160, .f32⟩
  | 99 => ⟨S4x1x160x160x160, .f32⟩
  | 100 => ⟨S4x1x160x160x160, .f32⟩
  | 101 => ⟨S4x1x160x160x160, .f32⟩
  | 102 => ⟨S4x1x160x160x160, .f32⟩
  | 103 => ⟨S_, .i32⟩
  | 104 => ⟨S_, .f32⟩
  | 105 => ⟨S4x1x162x162x162, .f32⟩
  | 106 => ⟨S4x1x160x160x160, .f32⟩
  | 107 => ⟨S4x1x160x160x160, .f32⟩
  | 108 => ⟨S4x1x160x160x160, .f32⟩
  | 109 => ⟨S4x1x160x160x160, .f32⟩
  | 110 => ⟨S4x1x160x160x160, .f32⟩
  | 111 => ⟨S4x1x160x160x160, .f32⟩
  | 112 => ⟨S4x1x160x160x160, .f32⟩
  | 113 => ⟨S4x1x160x160x160, .f32⟩
  | 114 => ⟨S4x1x160x160x160, .f32⟩
  | 115 => ⟨S4x1x160x160x160, .f32⟩
  | 116 => ⟨S4x1x160x160x160, .f32⟩
  | 117 => ⟨S4x1x160x160x160, .f32⟩
  | 118 => ⟨S4x1x160x160x160, .f32⟩
  | 119 => ⟨S4x1x160x160x160, .f32⟩
  | 120 => ⟨S4x1x160x160x160, .f32⟩
  | 121 => ⟨S4x1x160x160x160, .f32⟩
  | 122 => ⟨S4x1x160x160x160, .f32⟩
  | 123 => ⟨S_, .i32⟩
  | 124 => ⟨S_, .f32⟩
  | 125 => ⟨S4x1x162x162x162, .f32⟩
  | 126 => ⟨S4x1x160x160x160, .f32⟩
  | 127 => ⟨S4x1x160x160x160, .f32⟩
  | _ => ⟨S4x1x160x160x160, .f32⟩

abbrev hbmTy0_3 (i : Nat) : BufTy := match i % 128 with
  | 0 => ⟨S4x1x160x160x160, .f32⟩
  | 1 => ⟨S4x1x160x160x160, .f32⟩
  | 2 => ⟨S4x1x160x160x160, .f32⟩
  | 3 => ⟨S4x1x160x160x160, .f32⟩
  | 4 => ⟨S4x1x160x160x160, .f32⟩
  | 5 => ⟨S4x1x160x160x160, .f32⟩
  | 6 => ⟨S4x1x160x160x160, .f32⟩
  | 7 => ⟨S4x1x160x160x160, .f32⟩
  | 8 => ⟨S4x1x160x160x160, .f32⟩
  | 9 => ⟨S4x1x160x160x160, .f32⟩
  | 10 => ⟨S4x1x160x160x160, .f32⟩
  | 11 => ⟨S4x1x160x160x160, .f32⟩
  | 12 => ⟨S4x1x160x160x160, .f32⟩
  | 13 => ⟨S4x1x160x160x160, .f32⟩
  | 14 => ⟨S4x1x160x160x160, .f32⟩
  | 15 => ⟨S_, .i32⟩
  | 16 => ⟨S_, .f32⟩
  | 17 => ⟨S4x1x162x162x162, .f32⟩
  | 18 => ⟨S4x1x160x160x160, .f32⟩
  | 19 => ⟨S4x1x160x160x160, .f32⟩
  | 20 => ⟨S4x1x160x160x160, .f32⟩
  | 21 => ⟨S4x1x160x160x160, .f32⟩
  | 22 => ⟨S4x1x160x160x160, .f32⟩
  | 23 => ⟨S4x1x160x160x160, .f32⟩
  | 24 => ⟨S4x1x160x160x160, .f32⟩
  | 25 => ⟨S4x1x160x160x160, .f32⟩
  | 26 => ⟨S4x1x160x160x160, .f32⟩
  | 27 => ⟨S4x1x160x160x160, .f32⟩
  | 28 => ⟨S4x1x160x160x160, .f32⟩
  | 29 => ⟨S4x1x160x160x160, .f32⟩
  | 30 => ⟨S4x1x160x160x160, .f32⟩
  | 31 => ⟨S4x1x160x160x160, .f32⟩
  | 32 => ⟨S4x1x160x160x160, .f32⟩
  | 33 => ⟨S4x1x160x160x160, .f32⟩
  | 34 => ⟨S4x1x160x160x160, .f32⟩
  | 35 => ⟨S_, .i32⟩
  | 36 => ⟨S_, .f32⟩
  | 37 => ⟨S4x1x162x162x162, .f32⟩
  | 38 => ⟨S4x1x160x160x160, .f32⟩
  | 39 => ⟨S4x1x160x160x160, .f32⟩
  | 40 => ⟨S4x1x160x160x160, .f32⟩
  | 41 => ⟨S4x1x160x160x160, .f32⟩
  | 42 => ⟨S4x1x160x160x160, .f32⟩
  | 43 => ⟨S4x1x160x160x160, .f32⟩
  | 44 => ⟨S4x1x160x160x160, .f32⟩
  | 45 => ⟨S4x1x160x160x160, .f32⟩
  | 46 => ⟨S4x1x160x160x160, .f32⟩
  | 47 => ⟨S4x1x160x160x160, .f32⟩
  | 48 => ⟨S4x1x160x160x160, .f32⟩
  | 49 => ⟨S4x1x160x160x160, .f32⟩
  | 50 => ⟨S4x1x160x160x160, .f32⟩
  | 51 => ⟨S4x1x160x160x160, .f32⟩
  | 52 => ⟨S4x1x160x160x160, .f32⟩
  | 53 => ⟨S4x1x160x160x160, .f32⟩
  | 54 => ⟨S4x1x160x160x160, .f32⟩
  | 55 => ⟨S_, .i32⟩
  | 56 => ⟨S_, .f32⟩
  | 57 => ⟨S4x1x162x162x162, .f32⟩
  | 58 => ⟨S4x1x160x160x160, .f32⟩
  | 59 => ⟨S4x1x160x160x160, .f32⟩
  | 60 => ⟨S4x1x160x160x160, .f32⟩
  | 61 => ⟨S4x1x160x160x160, .f32⟩
  | 62 => ⟨S4x1x160x160x160, .f32⟩
  | 63 => ⟨S4x1x160x160x160, .f32⟩
  | 64 => ⟨S4x1x160x160x160, .f32⟩
  | 65 => ⟨S4x1x160x160x160, .f32⟩
  | 66 => ⟨S4x1x160x160x160, .f32⟩
  | 67 => ⟨S4x1x160x160x160, .f32⟩
  | 68 => ⟨S4x1x160x160x160, .f32⟩
  | 69 => ⟨S4x1x160x160x160, .f32⟩
  | 70 => ⟨S4x1x160x160x160, .f32⟩
  | 71 => ⟨S4x1x160x160x160, .f32⟩
  | 72 => ⟨S4x1x160x160x160, .f32⟩
  | 73 => ⟨S4x1x160x160x160, .f32⟩
  | 74 => ⟨S4x1x160x160x160, .f32⟩
  | 75 => ⟨S_, .i32⟩
  | 76 => ⟨S_, .f32⟩
  | 77 => ⟨S4x1x162x162x162, .f32⟩
  | 78 => ⟨S4x1x160x160x160, .f32⟩
  | 79 => ⟨S4x1x160x160x160, .f32⟩
  | 80 => ⟨S4x1x160x160x160, .f32⟩
  | 81 => ⟨S4x1x160x160x160, .f32⟩
  | 82 => ⟨S4x1x160x160x160, .f32⟩
  | 83 => ⟨S4x1x160x160x160, .f32⟩
  | 84 => ⟨S4x1x160x160x160, .f32⟩
  | 85 => ⟨S4x1x160x160x160, .f32⟩
  | 86 => ⟨S4x1x160x160x160, .f32⟩
  | 87 => ⟨S4x1x160x160x160, .f32⟩
  | 88 => ⟨S4x1x160x160x160, .f32⟩
  | 89 => ⟨S4x1x160x160x160, .f32⟩
  | 90 => ⟨S4x1x160x160x160, .f32⟩
  | 91 => ⟨S4x1x160x160x160, .f32⟩
  | 92 => ⟨S4x1x160x160x160, .f32⟩
  | 93 => ⟨S4x1x160x160x160, .f32⟩
  | 94 => ⟨S4x1x160x160x160, .f32⟩
  | 95 => ⟨S_, .i32⟩
  | 96 => ⟨S_, .f32⟩
  | 97 => ⟨S4x1x162x162x162, .f32⟩
  | 98 => ⟨S4x1x160x160x160, .f32⟩
  | 99 => ⟨S4x1x160x160x160, .f32⟩
  | 100 => ⟨S4x1x160x160x160, .f32⟩
  | 101 => ⟨S4x1x160x160x160, .f32⟩
  | 102 => ⟨S4x1x160x160x160, .f32⟩
  | 103 => ⟨S4x1x160x160x160, .f32⟩
  | 104 => ⟨S4x1x160x160x160, .f32⟩
  | 105 => ⟨S4x1x160x160x160, .f32⟩
  | 106 => ⟨S4x1x160x160x160, .f32⟩
  | 107 => ⟨S4x1x160x160x160, .f32⟩
  | 108 => ⟨S4x1x160x160x160, .f32⟩
  | 109 => ⟨S4x1x160x160x160, .f32⟩
  | 110 => ⟨S4x1x160x160x160, .f32⟩
  | 111 => ⟨S4x1x160x160x160, .f32⟩
  | 112 => ⟨S4x1x160x160x160, .f32⟩
  | 113 => ⟨S4x1x160x160x160, .f32⟩
  | 114 => ⟨S4x1x160x160x160, .f32⟩
  | 115 => ⟨S_, .i32⟩
  | 116 => ⟨S_, .f32⟩
  | 117 => ⟨S4x1x162x162x162, .f32⟩
  | 118 => ⟨S4x1x160x160x160, .f32⟩
  | 119 => ⟨S4x1x160x160x160, .f32⟩
  | 120 => ⟨S4x1x160x160x160, .f32⟩
  | 121 => ⟨S4x1x160x160x160, .f32⟩
  | 122 => ⟨S4x1x160x160x160, .f32⟩
  | 123 => ⟨S4x1x160x160x160, .f32⟩
  | 124 => ⟨S4x1x160x160x160, .f32⟩
  | 125 => ⟨S4x1x160x160x160, .f32⟩
  | 126 => ⟨S4x1x160x160x160, .f32⟩
  | 127 => ⟨S4x1x160x160x160, .f32⟩
  | _ => ⟨S4x1x160x160x160, .f32⟩

abbrev hbmTy0_4 (i : Nat) : BufTy := match i % 128 with
  | 0 => ⟨S4x1x160x160x160, .f32⟩
  | 1 => ⟨S4x1x160x160x160, .f32⟩
  | 2 => ⟨S4x1x160x160x160, .f32⟩
  | 3 => ⟨S4x1x160x160x160, .f32⟩
  | 4 => ⟨S4x1x160x160x160, .f32⟩
  | 5 => ⟨S4x1x160x160x160, .f32⟩
  | 6 => ⟨S4x1x160x160x160, .f32⟩
  | 7 => ⟨S_, .i32⟩
  | 8 => ⟨S_, .f32⟩
  | 9 => ⟨S4x1x162x162x162, .f32⟩
  | 10 => ⟨S4x1x160x160x160, .f32⟩
  | 11 => ⟨S4x1x160x160x160, .f32⟩
  | 12 => ⟨S4x1x160x160x160, .f32⟩
  | 13 => ⟨S4x1x160x160x160, .f32⟩
  | 14 => ⟨S4x1x160x160x160, .f32⟩
  | 15 => ⟨S4x1x160x160x160, .f32⟩
  | 16 => ⟨S4x1x160x160x160, .f32⟩
  | 17 => ⟨S4x1x160x160x160, .f32⟩
  | 18 => ⟨S4x1x160x160x160, .f32⟩
  | 19 => ⟨S4x1x160x160x160, .f32⟩
  | 20 => ⟨S4x1x160x160x160, .f32⟩
  | 21 => ⟨S4x1x160x160x160, .f32⟩
  | 22 => ⟨S4x1x160x160x160, .f32⟩
  | 23 => ⟨S4x1x160x160x160, .f32⟩
  | 24 => ⟨S4x1x160x160x160, .f32⟩
  | 25 => ⟨S4x1x160x160x160, .f32⟩
  | 26 => ⟨S4x1x160x160x160, .f32⟩
  | 27 => ⟨S_, .i32⟩
  | 28 => ⟨S_, .f32⟩
  | 29 => ⟨S4x1x162x162x162, .f32⟩
  | 30 => ⟨S4x1x160x160x160, .f32⟩
  | 31 => ⟨S4x1x160x160x160, .f32⟩
  | 32 => ⟨S4x1x160x160x160, .f32⟩
  | 33 => ⟨S4x1x160x160x160, .f32⟩
  | 34 => ⟨S4x1x160x160x160, .f32⟩
  | 35 => ⟨S4x1x160x160x160, .f32⟩
  | 36 => ⟨S4x1x160x160x160, .f32⟩
  | 37 => ⟨S4x1x160x160x160, .f32⟩
  | 38 => ⟨S4x1x160x160x160, .f32⟩
  | 39 => ⟨S4x1x160x160x160, .f32⟩
  | 40 => ⟨S4x1x160x160x160, .f32⟩
  | 41 => ⟨S4x1x160x160x160, .f32⟩
  | 42 => ⟨S4x1x160x160x160, .f32⟩
  | 43 => ⟨S4x1x160x160x160, .f32⟩
  | 44 => ⟨S4x1x160x160x160, .f32⟩
  | 45 => ⟨S4x1x160x160x160, .f32⟩
  | 46 => ⟨S4x1x160x160x160, .f32⟩
  | 47 => ⟨S_, .i32⟩
  | 48 => ⟨S_, .f32⟩
  | 49 => ⟨S4x1x162x162x162, .f32⟩
  | 50 => ⟨S4x1x160x160x160, .f32⟩
  | 51 => ⟨S4x1x160x160x160, .f32⟩
  | 52 => ⟨S4x1x160x160x160, .f32⟩
  | 53 => ⟨S4x1x160x160x160, .f32⟩
  | 54 => ⟨S4x1x160x160x160, .f32⟩
  | 55 => ⟨S4x1x160x160x160, .f32⟩
  | 56 => ⟨S4x1x160x160x160, .f32⟩
  | 57 => ⟨S4x1x160x160x160, .f32⟩
  | 58 => ⟨S4x1x160x160x160, .f32⟩
  | 59 => ⟨S4x1x160x160x160, .f32⟩
  | 60 => ⟨S4x1x160x160x160, .f32⟩
  | 61 => ⟨S4x1x160x160x160, .f32⟩
  | 62 => ⟨S4x1x160x160x160, .f32⟩
  | 63 => ⟨S4x1x160x160x160, .f32⟩
  | 64 => ⟨S4x1x160x160x160, .f32⟩
  | 65 => ⟨S4x1x160x160x160, .f32⟩
  | 66 => ⟨S4x1x160x160x160, .f32⟩
  | 67 => ⟨S_, .i32⟩
  | 68 => ⟨S_, .f32⟩
  | 69 => ⟨S4x1x162x162x162, .f32⟩
  | 70 => ⟨S4x1x160x160x160, .f32⟩
  | 71 => ⟨S4x1x160x160x160, .f32⟩
  | 72 => ⟨S4x1x160x160x160, .f32⟩
  | 73 => ⟨S4x1x160x160x160, .f32⟩
  | 74 => ⟨S4x1x160x160x160, .f32⟩
  | 75 => ⟨S4x1x160x160x160, .f32⟩
  | 76 => ⟨S4x1x160x160x160, .f32⟩
  | 77 => ⟨S4x1x160x160x160, .f32⟩
  | 78 => ⟨S4x1x160x160x160, .f32⟩
  | 79 => ⟨S4x1x160x160x160, .f32⟩
  | 80 => ⟨S4x1x160x160x160, .f32⟩
  | 81 => ⟨S4x1x160x160x160, .f32⟩
  | 82 => ⟨S4x1x160x160x160, .f32⟩
  | 83 => ⟨S4x1x160x160x160, .f32⟩
  | 84 => ⟨S4x1x160x160x160, .f32⟩
  | 85 => ⟨S4x1x160x160x160, .f32⟩
  | 86 => ⟨S4x1x160x160x160, .f32⟩
  | 87 => ⟨S_, .i32⟩
  | 88 => ⟨S_, .f32⟩
  | 89 => ⟨S4x1x162x162x162, .f32⟩
  | 90 => ⟨S4x1x160x160x160, .f32⟩
  | 91 => ⟨S4x1x160x160x160, .f32⟩
  | 92 => ⟨S4x1x160x160x160, .f32⟩
  | 93 => ⟨S4x1x160x160x160, .f32⟩
  | 94 => ⟨S4x1x160x160x160, .f32⟩
  | 95 => ⟨S4x1x160x160x160, .f32⟩
  | 96 => ⟨S4x1x160x160x160, .f32⟩
  | 97 => ⟨S4x1x160x160x160, .f32⟩
  | 98 => ⟨S4x1x160x160x160, .f32⟩
  | 99 => ⟨S4x1x160x160x160, .f32⟩
  | 100 => ⟨S4x1x160x160x160, .f32⟩
  | 101 => ⟨S4x1x160x160x160, .f32⟩
  | 102 => ⟨S4x1x160x160x160, .f32⟩
  | 103 => ⟨S4x1x160x160x160, .f32⟩
  | 104 => ⟨S4x1x160x160x160, .f32⟩
  | 105 => ⟨S4x1x160x160x160, .f32⟩
  | 106 => ⟨S4x1x160x160x160, .f32⟩
  | 107 => ⟨S_, .i32⟩
  | 108 => ⟨S_, .f32⟩
  | 109 => ⟨S4x1x162x162x162, .f32⟩
  | 110 => ⟨S4x1x160x160x160, .f32⟩
  | 111 => ⟨S4x1x160x160x160, .f32⟩
  | 112 => ⟨S4x1x160x160x160, .f32⟩
  | 113 => ⟨S4x1x160x160x160, .f32⟩
  | 114 => ⟨S4x1x160x160x160, .f32⟩
  | 115 => ⟨S4x1x160x160x160, .f32⟩
  | 116 => ⟨S4x1x160x160x160, .f32⟩
  | 117 => ⟨S4x1x160x160x160, .f32⟩
  | 118 => ⟨S4x1x160x160x160, .f32⟩
  | 119 => ⟨S4x1x160x160x160, .f32⟩
  | 120 => ⟨S4x1x160x160x160, .f32⟩
  | 121 => ⟨S4x1x160x160x160, .f32⟩
  | 122 => ⟨S4x1x160x160x160, .f32⟩
  | 123 => ⟨S4x1x160x160x160, .f32⟩
  | 124 => ⟨S4x1x160x160x160, .f32⟩
  | 125 => ⟨S4x1x160x160x160, .f32⟩
  | 126 => ⟨S4x1x160x160x160, .f32⟩
  | 127 => ⟨S_, .i32⟩
  | _ => ⟨S4x1x160x160x160, .f32⟩

abbrev hbmTy0_5 (i : Nat) : BufTy := match i % 128 with
  | 0 => ⟨S_, .f32⟩
  | 1 => ⟨S4x1x162x162x162, .f32⟩
  | 2 => ⟨S4x1x160x160x160, .f32⟩
  | 3 => ⟨S4x1x160x160x160, .f32⟩
  | 4 => ⟨S4x1x160x160x160, .f32⟩
  | 5 => ⟨S4x1x160x160x160, .f32⟩
  | 6 => ⟨S4x1x160x160x160, .f32⟩
  | 7 => ⟨S4x1x160x160x160, .f32⟩
  | 8 => ⟨S4x1x160x160x160, .f32⟩
  | 9 => ⟨S4x1x160x160x160, .f32⟩
  | 10 => ⟨S4x1x160x160x160, .f32⟩
  | 11 => ⟨S4x1x160x160x160, .f32⟩
  | 12 => ⟨S4x1x160x160x160, .f32⟩
  | 13 => ⟨S4x1x160x160x160, .f32⟩
  | 14 => ⟨S4x1x160x160x160, .f32⟩
  | 15 => ⟨S4x1x160x160x160, .f32⟩
  | 16 => ⟨S4x1x160x160x160, .f32⟩
  | 17 => ⟨S4x1x160x160x160, .f32⟩
  | 18 => ⟨S4x1x160x160x160, .f32⟩
  | 19 => ⟨S_, .i32⟩
  | 20 => ⟨S_, .f32⟩
  | 21 => ⟨S4x1x162x162x162, .f32⟩
  | 22 => ⟨S4x1x160x160x160, .f32⟩
  | 23 => ⟨S4x1x160x160x160, .f32⟩
  | 24 => ⟨S4x1x160x160x160, .f32⟩
  | 25 => ⟨S4x1x160x160x160, .f32⟩
  | 26 => ⟨S4x1x160x160x160, .f32⟩
  | 27 => ⟨S4x1x160x160x160, .f32⟩
  | 28 => ⟨S4x1x160x160x160, .f32⟩
  | 29 => ⟨S4x1x160x160x160, .f32⟩
  | 30 => ⟨S4x1x160x160x160, .f32⟩
  | 31 => ⟨S4x1x160x160x160, .f32⟩
  | 32 => ⟨S4x1x160x160x160, .f32⟩
  | 33 => ⟨S4x1x160x160x160, .f32⟩
  | 34 => ⟨S4x1x160x160x160, .f32⟩
  | 35 => ⟨S4x1x160x160x160, .f32⟩
  | 36 => ⟨S4x1x160x160x160, .f32⟩
  | 37 => ⟨S4x1x160x160x160, .f32⟩
  | 38 => ⟨S4x1x160x160x160, .f32⟩
  | 39 => ⟨S_, .i32⟩
  | 40 => ⟨S_, .f32⟩
  | 41 => ⟨S4x1x162x162x162, .f32⟩
  | 42 => ⟨S4x1x160x160x160, .f32⟩
  | 43 => ⟨S4x1x160x160x160, .f32⟩
  | 44 => ⟨S4x1x160x160x160, .f32⟩
  | 45 => ⟨S4x1x160x160x160, .f32⟩
  | 46 => ⟨S4x1x160x160x160, .f32⟩
  | 47 => ⟨S4x1x160x160x160, .f32⟩
  | 48 => ⟨S4x1x160x160x160, .f32⟩
  | 49 => ⟨S4x1x160x160x160, .f32⟩
  | 50 => ⟨S4x1x160x160x160, .f32⟩
  | 51 => ⟨S4x1x160x160x160, .f32⟩
  | 52 => ⟨S4x1x160x160x160, .f32⟩
  | 53 => ⟨S4x1x160x160x160, .f32⟩
  | 54 => ⟨S4x1x160x160x160, .f32⟩
  | 55 => ⟨S4x1x160x160x160, .f32⟩
  | 56 => ⟨S4x1x160x160x160, .f32⟩
  | 57 => ⟨S4x1x160x160x160, .f32⟩
  | 58 => ⟨S4x1x160x160x160, .f32⟩
  | 59 => ⟨S_, .i32⟩
  | 60 => ⟨S_, .f32⟩
  | 61 => ⟨S4x1x162x162x162, .f32⟩
  | 62 => ⟨S4x1x160x160x160, .f32⟩
  | 63 => ⟨S4x1x160x160x160, .f32⟩
  | 64 => ⟨S4x1x160x160x160, .f32⟩
  | 65 => ⟨S4x1x160x160x160, .f32⟩
  | 66 => ⟨S4x1x160x160x160, .f32⟩
  | 67 => ⟨S4x1x160x160x160, .f32⟩
  | 68 => ⟨S4x1x160x160x160, .f32⟩
  | 69 => ⟨S4x1x160x160x160, .f32⟩
  | 70 => ⟨S4x1x160x160x160, .f32⟩
  | 71 => ⟨S4x1x160x160x160, .f32⟩
  | 72 => ⟨S4x1x160x160x160, .f32⟩
  | 73 => ⟨S4x1x160x160x160, .f32⟩
  | 74 => ⟨S4x1x160x160x160, .f32⟩
  | 75 => ⟨S4x1x160x160x160, .f32⟩
  | 76 => ⟨S4x1x160x160x160, .f32⟩
  | 77 => ⟨S4x1x160x160x160, .f32⟩
  | 78 => ⟨S4x1x160x160x160, .f32⟩
  | 79 => ⟨S_, .i32⟩
  | 80 => ⟨S_, .f32⟩
  | 81 => ⟨S4x1x162x162x162, .f32⟩
  | 82 => ⟨S4x1x160x160x160, .f32⟩
  | 83 => ⟨S4x1x160x160x160, .f32⟩
  | 84 => ⟨S4x1x160x160x160, .f32⟩
  | 85 => ⟨S4x1x160x160x160, .f32⟩
  | 86 => ⟨S4x1x160x160x160, .f32⟩
  | 87 => ⟨S4x1x160x160x160, .f32⟩
  | 88 => ⟨S4x1x160x160x160, .f32⟩
  | 89 => ⟨S4x1x160x160x160, .f32⟩
  | 90 => ⟨S4x1x160x160x160, .f32⟩
  | 91 => ⟨S4x1x160x160x160, .f32⟩
  | 92 => ⟨S4x1x160x160x160, .f32⟩
  | 93 => ⟨S4x1x160x160x160, .f32⟩
  | 94 => ⟨S4x1x160x160x160, .f32⟩
  | 95 => ⟨S4x1x160x160x160, .f32⟩
  | 96 => ⟨S4x1x160x160x160, .f32⟩
  | 97 => ⟨S4x1x160x160x160, .f32⟩
  | 98 => ⟨S4x1x160x160x160, .f32⟩
  | 99 => ⟨S4, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S4, .i32⟩
  | 107 => ⟨S4, .i32⟩
  | 108 => ⟨S_, .i32⟩
  | 109 => ⟨S4, .i32⟩
  | 110 => ⟨S4, .i1⟩
  | 111 => ⟨S_, .i32⟩
  | 112 => ⟨S4, .i32⟩
  | 113 => ⟨S4, .i1⟩
  | 114 => ⟨S_, .i32⟩
  | 115 => ⟨S_, .i1⟩
  | 116 => ⟨S4, .i1⟩
  | 117 => ⟨S4, .i1⟩
  | 118 => ⟨S4, .i1⟩
  | 119 => ⟨S4, .i32⟩
  | 120 => ⟨S4, .i32⟩
  | 121 => ⟨S4, .i32⟩
  | 122 => ⟨S_, .i32⟩
  | 123 => ⟨S4, .i32⟩
  | 124 => ⟨S4, .i1⟩
  | 125 => ⟨S4x1x1x1x1, .i1⟩
  | 126 => ⟨S4x1x160x160x160, .i1⟩
  | 127 => ⟨S4x1x160x160x160, .f32⟩
  | _ => ⟨S4x1x160x160x160, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x1x160x160x160, .f32⟩

abbrev bufTy : (tb : Table) → Fin (tcTables nBuf tb) → BufTy
  | .hbm, ⟨i, _⟩ => hbmTy i
  | _, _ => ⟨S4x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_call1_v0 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call2_c : Ref sig .tc := ⟨.hbm, 19, rfl⟩
abbrev main_call2_call0_v0 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_v15 : Ref sig .tc := ⟨.hbm, 36, rfl⟩
abbrev main_call2_v16 : Ref sig .tc := ⟨.hbm, 37, rfl⟩
abbrev main_v9 : Ref sig .tc := ⟨.hbm, 38, rfl⟩
abbrev main_call3_c : Ref sig .tc := ⟨.hbm, 39, rfl⟩
abbrev main_call3_call0_v0 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_v12 : Ref sig .tc := ⟨.hbm, 53, rfl⟩
abbrev main_call3_v13 : Ref sig .tc := ⟨.hbm, 54, rfl⟩
abbrev main_call3_v14 : Ref sig .tc := ⟨.hbm, 55, rfl⟩
abbrev main_call3_v15 : Ref sig .tc := ⟨.hbm, 56, rfl⟩
abbrev main_call3_v16 : Ref sig .tc := ⟨.hbm, 57, rfl⟩
abbrev main_v10 : Ref sig .tc := ⟨.hbm, 58, rfl⟩
abbrev main_call4_c : Ref sig .tc := ⟨.hbm, 59, rfl⟩
abbrev main_call4_call0_v0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_call4_v15 : Ref sig .tc := ⟨.hbm, 76, rfl⟩
abbrev main_call4_v16 : Ref sig .tc := ⟨.hbm, 77, rfl⟩
abbrev main_v11 : Ref sig .tc := ⟨.hbm, 78, rfl⟩
abbrev main_call5_c : Ref sig .tc := ⟨.hbm, 79, rfl⟩
abbrev main_call5_call0_v0 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_v12 : Ref sig .tc := ⟨.hbm, 93, rfl⟩
abbrev main_call5_v13 : Ref sig .tc := ⟨.hbm, 94, rfl⟩
abbrev main_call5_v14 : Ref sig .tc := ⟨.hbm, 95, rfl⟩
abbrev main_call5_v15 : Ref sig .tc := ⟨.hbm, 96, rfl⟩
abbrev main_call5_v16 : Ref sig .tc := ⟨.hbm, 97, rfl⟩
abbrev main_v12 : Ref sig .tc := ⟨.hbm, 98, rfl⟩
abbrev main_call6_c : Ref sig .tc := ⟨.hbm, 99, rfl⟩
abbrev main_call6_call0_v0 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_v5 : Ref sig .tc := ⟨.hbm, 106, rfl⟩
abbrev main_call6_v6 : Ref sig .tc := ⟨.hbm, 107, rfl⟩
abbrev main_call6_v7 : Ref sig .tc := ⟨.hbm, 108, rfl⟩
abbrev main_call6_v8 : Ref sig .tc := ⟨.hbm, 109, rfl⟩
abbrev main_call6_v9 : Ref sig .tc := ⟨.hbm, 110, rfl⟩
abbrev main_call6_v10 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_call6_v15 : Ref sig .tc := ⟨.hbm, 116, rfl⟩
abbrev main_call6_v16 : Ref sig .tc := ⟨.hbm, 117, rfl⟩
abbrev main_v13 : Ref sig .tc := ⟨.hbm, 118, rfl⟩
abbrev main_call7_c : Ref sig .tc := ⟨.hbm, 119, rfl⟩
abbrev main_call7_call0_v0 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_v6 : Ref sig .tc := ⟨.hbm, 127, rfl⟩
abbrev main_call7_v7 : Ref sig .tc := ⟨.hbm, 128, rfl⟩
abbrev main_call7_v8 : Ref sig .tc := ⟨.hbm, 129, rfl⟩
abbrev main_call7_v9 : Ref sig .tc := ⟨.hbm, 130, rfl⟩
abbrev main_call7_v10 : Ref sig .tc := ⟨.hbm, 131, rfl⟩
abbrev main_call7_v11 : Ref sig .tc := ⟨.hbm, 132, rfl⟩
abbrev main_call7_v12 : Ref sig .tc := ⟨.hbm, 133, rfl⟩
abbrev main_call7_v13 : Ref sig .tc := ⟨.hbm, 134, rfl⟩
abbrev main_call7_v14 : Ref sig .tc := ⟨.hbm, 135, rfl⟩
abbrev main_call7_v15 : Ref sig .tc := ⟨.hbm, 136, rfl⟩
abbrev main_call7_v16 : Ref sig .tc := ⟨.hbm, 137, rfl⟩
abbrev main_v14 : Ref sig .tc := ⟨.hbm, 138, rfl⟩
abbrev main_call8_c : Ref sig .tc := ⟨.hbm, 139, rfl⟩
abbrev main_call8_call0_v0 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_call8_v6 : Ref sig .tc := ⟨.hbm, 147, rfl⟩
abbrev main_call8_v7 : Ref sig .tc := ⟨.hbm, 148, rfl⟩
abbrev main_call8_v8 : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_call8_v12 : Ref sig .tc := ⟨.hbm, 153, rfl⟩
abbrev main_call8_v13 : Ref sig .tc := ⟨.hbm, 154, rfl⟩
abbrev main_call8_v14 : Ref sig .tc := ⟨.hbm, 155, rfl⟩
abbrev main_call8_v15 : Ref sig .tc := ⟨.hbm, 156, rfl⟩
abbrev main_call8_v16 : Ref sig .tc := ⟨.hbm, 157, rfl⟩
abbrev main_v15 : Ref sig .tc := ⟨.hbm, 158, rfl⟩
abbrev main_call9_c : Ref sig .tc := ⟨.hbm, 159, rfl⟩
abbrev main_call9_call0_v0 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_call9_v3 : Ref sig .tc := ⟨.hbm, 164, rfl⟩
abbrev main_call9_v4 : Ref sig .tc := ⟨.hbm, 165, rfl⟩
abbrev main_call9_v5 : Ref sig .tc := ⟨.hbm, 166, rfl⟩
abbrev main_call9_v6 : Ref sig .tc := ⟨.hbm, 167, rfl⟩
abbrev main_call9_v7 : Ref sig .tc := ⟨.hbm, 168, rfl⟩
abbrev main_call9_v8 : Ref sig .tc := ⟨.hbm, 169, rfl⟩
abbrev main_call9_v9 : Ref sig .tc := ⟨.hbm, 170, rfl⟩
abbrev main_call9_v10 : Ref sig .tc := ⟨.hbm, 171, rfl⟩
abbrev main_call9_v11 : Ref sig .tc := ⟨.hbm, 172, rfl⟩
abbrev main_call9_v12 : Ref sig .tc := ⟨.hbm, 173, rfl⟩
abbrev main_call9_v13 : Ref sig .tc := ⟨.hbm, 174, rfl⟩
abbrev main_call9_v14 : Ref sig .tc := ⟨.hbm, 175, rfl⟩
abbrev main_call9_v15 : Ref sig .tc := ⟨.hbm, 176, rfl⟩
abbrev main_call9_v16 : Ref sig .tc := ⟨.hbm, 177, rfl⟩
abbrev main_v16 : Ref sig .tc := ⟨.hbm, 178, rfl⟩
abbrev main_call10_c : Ref sig .tc := ⟨.hbm, 179, rfl⟩
abbrev main_call10_call0_v0 : Ref sig .tc := ⟨.hbm, 180, rfl⟩
abbrev main_call10_v0 : Ref sig .tc := ⟨.hbm, 181, rfl⟩
abbrev main_call10_v1 : Ref sig .tc := ⟨.hbm, 182, rfl⟩
abbrev main_call10_v2 : Ref sig .tc := ⟨.hbm, 183, rfl⟩
abbrev main_call10_v3 : Ref sig .tc := ⟨.hbm, 184, rfl⟩
abbrev main_call10_v4 : Ref sig .tc := ⟨.hbm, 185, rfl⟩
abbrev main_call10_v5 : Ref sig .tc := ⟨.hbm, 186, rfl⟩
abbrev main_call10_v6 : Ref sig .tc := ⟨.hbm, 187, rfl⟩
abbrev main_call10_v7 : Ref sig .tc := ⟨.hbm, 188, rfl⟩
abbrev main_call10_v8 : Ref sig .tc := ⟨.hbm, 189, rfl⟩
abbrev main_call10_v9 : Ref sig .tc := ⟨.hbm, 190, rfl⟩
abbrev main_call10_v10 : Ref sig .tc := ⟨.hbm, 191, rfl⟩
abbrev main_call10_v11 : Ref sig .tc := ⟨.hbm, 192, rfl⟩
abbrev main_call10_v12 : Ref sig .tc := ⟨.hbm, 193, rfl⟩
abbrev main_call10_v13 : Ref sig .tc := ⟨.hbm, 194, rfl⟩
abbrev main_call10_v14 : Ref sig .tc := ⟨.hbm, 195, rfl⟩
abbrev main_call10_v15 : Ref sig .tc := ⟨.hbm, 196, rfl⟩
abbrev main_call10_v16 : Ref sig .tc := ⟨.hbm, 197, rfl⟩
abbrev main_v17 : Ref sig .tc := ⟨.hbm, 198, rfl⟩
abbrev main_call11_c : Ref sig .tc := ⟨.hbm, 199, rfl⟩
abbrev main_call11_call0_v0 : Ref sig .tc := ⟨.hbm, 200, rfl⟩
abbrev main_call11_v0 : Ref sig .tc := ⟨.hbm, 201, rfl⟩
abbrev main_call11_v1 : Ref sig .tc := ⟨.hbm, 202, rfl⟩
abbrev main_call11_v2 : Ref sig .tc := ⟨.hbm, 203, rfl⟩
abbrev main_call11_v3 : Ref sig .tc := ⟨.hbm, 204, rfl⟩
abbrev main_call11_v4 : Ref sig .tc := ⟨.hbm, 205, rfl⟩
abbrev main_call11_v5 : Ref sig .tc := ⟨.hbm, 206, rfl⟩
abbrev main_call11_v6 : Ref sig .tc := ⟨.hbm, 207, rfl⟩
abbrev main_call11_v7 : Ref sig .tc := ⟨.hbm, 208, rfl⟩
abbrev main_call11_v8 : Ref sig .tc := ⟨.hbm, 209, rfl⟩
abbrev main_call11_v9 : Ref sig .tc := ⟨.hbm, 210, rfl⟩
abbrev main_call11_v10 : Ref sig .tc := ⟨.hbm, 211, rfl⟩
abbrev main_call11_v11 : Ref sig .tc := ⟨.hbm, 212, rfl⟩
abbrev main_call11_v12 : Ref sig .tc := ⟨.hbm, 213, rfl⟩
abbrev main_call11_v13 : Ref sig .tc := ⟨.hbm, 214, rfl⟩
abbrev main_call11_v14 : Ref sig .tc := ⟨.hbm, 215, rfl⟩
abbrev main_call11_v15 : Ref sig .tc := ⟨.hbm, 216, rfl⟩
abbrev main_call11_v16 : Ref sig .tc := ⟨.hbm, 217, rfl⟩
abbrev main_v18 : Ref sig .tc := ⟨.hbm, 218, rfl⟩
abbrev main_call12_c : Ref sig .tc := ⟨.hbm, 219, rfl⟩
abbrev main_call12_call0_v0 : Ref sig .tc := ⟨.hbm, 220, rfl⟩
abbrev main_call12_v0 : Ref sig .tc := ⟨.hbm, 221, rfl⟩
abbrev main_call12_v1 : Ref sig .tc := ⟨.hbm, 222, rfl⟩
abbrev main_call12_v2 : Ref sig .tc := ⟨.hbm, 223, rfl⟩
abbrev main_call12_v3 : Ref sig .tc := ⟨.hbm, 224, rfl⟩
abbrev main_call12_v4 : Ref sig .tc := ⟨.hbm, 225, rfl⟩
abbrev main_call12_v5 : Ref sig .tc := ⟨.hbm, 226, rfl⟩
abbrev main_call12_v6 : Ref sig .tc := ⟨.hbm, 227, rfl⟩
abbrev main_call12_v7 : Ref sig .tc := ⟨.hbm, 228, rfl⟩
abbrev main_call12_v8 : Ref sig .tc := ⟨.hbm, 229, rfl⟩
abbrev main_call12_v9 : Ref sig .tc := ⟨.hbm, 230, rfl⟩
abbrev main_call12_v10 : Ref sig .tc := ⟨.hbm, 231, rfl⟩
abbrev main_call12_v11 : Ref sig .tc := ⟨.hbm, 232, rfl⟩
abbrev main_call12_v12 : Ref sig .tc := ⟨.hbm, 233, rfl⟩
abbrev main_call12_v13 : Ref sig .tc := ⟨.hbm, 234, rfl⟩
abbrev main_call12_v14 : Ref sig .tc := ⟨.hbm, 235, rfl⟩
abbrev main_call12_v15 : Ref sig .tc := ⟨.hbm, 236, rfl⟩
abbrev main_call12_v16 : Ref sig .tc := ⟨.hbm, 237, rfl⟩
abbrev main_v19 : Ref sig .tc := ⟨.hbm, 238, rfl⟩
abbrev main_call13_c : Ref sig .tc := ⟨.hbm, 239, rfl⟩
abbrev main_call13_call0_v0 : Ref sig .tc := ⟨.hbm, 240, rfl⟩
abbrev main_call13_v0 : Ref sig .tc := ⟨.hbm, 241, rfl⟩
abbrev main_call13_v1 : Ref sig .tc := ⟨.hbm, 242, rfl⟩
abbrev main_call13_v2 : Ref sig .tc := ⟨.hbm, 243, rfl⟩
abbrev main_call13_v3 : Ref sig .tc := ⟨.hbm, 244, rfl⟩
abbrev main_call13_v4 : Ref sig .tc := ⟨.hbm, 245, rfl⟩
abbrev main_call13_v5 : Ref sig .tc := ⟨.hbm, 246, rfl⟩
abbrev main_call13_v6 : Ref sig .tc := ⟨.hbm, 247, rfl⟩
abbrev main_call13_v7 : Ref sig .tc := ⟨.hbm, 248, rfl⟩
abbrev main_call13_v8 : Ref sig .tc := ⟨.hbm, 249, rfl⟩
abbrev main_call13_v9 : Ref sig .tc := ⟨.hbm, 250, rfl⟩
abbrev main_call13_v10 : Ref sig .tc := ⟨.hbm, 251, rfl⟩
abbrev main_call13_v11 : Ref sig .tc := ⟨.hbm, 252, rfl⟩
abbrev main_call13_v12 : Ref sig .tc := ⟨.hbm, 253, rfl⟩
abbrev main_call13_v13 : Ref sig .tc := ⟨.hbm, 254, rfl⟩
abbrev main_call13_v14 : Ref sig .tc := ⟨.hbm, 255, rfl⟩
abbrev main_call13_v15 : Ref sig .tc := ⟨.hbm, 256, rfl⟩
abbrev main_call13_v16 : Ref sig .tc := ⟨.hbm, 257, rfl⟩
abbrev main_v20 : Ref sig .tc := ⟨.hbm, 258, rfl⟩
abbrev main_call14_c : Ref sig .tc := ⟨.hbm, 259, rfl⟩
abbrev main_call14_call0_v0 : Ref sig .tc := ⟨.hbm, 260, rfl⟩
abbrev main_call14_v0 : Ref sig .tc := ⟨.hbm, 261, rfl⟩
abbrev main_call14_v1 : Ref sig .tc := ⟨.hbm, 262, rfl⟩
abbrev main_call14_v2 : Ref sig .tc := ⟨.hbm, 263, rfl⟩
abbrev main_call14_v3 : Ref sig .tc := ⟨.hbm, 264, rfl⟩
abbrev main_call14_v4 : Ref sig .tc := ⟨.hbm, 265, rfl⟩
abbrev main_call14_v5 : Ref sig .tc := ⟨.hbm, 266, rfl⟩
abbrev main_call14_v6 : Ref sig .tc := ⟨.hbm, 267, rfl⟩
abbrev main_call14_v7 : Ref sig .tc := ⟨.hbm, 268, rfl⟩
abbrev main_call14_v8 : Ref sig .tc := ⟨.hbm, 269, rfl⟩
abbrev main_call14_v9 : Ref sig .tc := ⟨.hbm, 270, rfl⟩
abbrev main_call14_v10 : Ref sig .tc := ⟨.hbm, 271, rfl⟩
abbrev main_call14_v11 : Ref sig .tc := ⟨.hbm, 272, rfl⟩
abbrev main_call14_v12 : Ref sig .tc := ⟨.hbm, 273, rfl⟩
abbrev main_call14_v13 : Ref sig .tc := ⟨.hbm, 274, rfl⟩
abbrev main_call14_v14 : Ref sig .tc := ⟨.hbm, 275, rfl⟩
abbrev main_call14_v15 : Ref sig .tc := ⟨.hbm, 276, rfl⟩
abbrev main_call14_v16 : Ref sig .tc := ⟨.hbm, 277, rfl⟩
abbrev main_v21 : Ref sig .tc := ⟨.hbm, 278, rfl⟩
abbrev main_call15_c : Ref sig .tc := ⟨.hbm, 279, rfl⟩
abbrev main_call15_call0_v0 : Ref sig .tc := ⟨.hbm, 280, rfl⟩
abbrev main_call15_v0 : Ref sig .tc := ⟨.hbm, 281, rfl⟩
abbrev main_call15_v1 : Ref sig .tc := ⟨.hbm, 282, rfl⟩
abbrev main_call15_v2 : Ref sig .tc := ⟨.hbm, 283, rfl⟩
abbrev main_call15_v3 : Ref sig .tc := ⟨.hbm, 284, rfl⟩
abbrev main_call15_v4 : Ref sig .tc := ⟨.hbm, 285, rfl⟩
abbrev main_call15_v5 : Ref sig .tc := ⟨.hbm, 286, rfl⟩
abbrev main_call15_v6 : Ref sig .tc := ⟨.hbm, 287, rfl⟩
abbrev main_call15_v7 : Ref sig .tc := ⟨.hbm, 288, rfl⟩
abbrev main_call15_v8 : Ref sig .tc := ⟨.hbm, 289, rfl⟩
abbrev main_call15_v9 : Ref sig .tc := ⟨.hbm, 290, rfl⟩
abbrev main_call15_v10 : Ref sig .tc := ⟨.hbm, 291, rfl⟩
abbrev main_call15_v11 : Ref sig .tc := ⟨.hbm, 292, rfl⟩
abbrev main_call15_v12 : Ref sig .tc := ⟨.hbm, 293, rfl⟩
abbrev main_call15_v13 : Ref sig .tc := ⟨.hbm, 294, rfl⟩
abbrev main_call15_v14 : Ref sig .tc := ⟨.hbm, 295, rfl⟩
abbrev main_call15_v15 : Ref sig .tc := ⟨.hbm, 296, rfl⟩
abbrev main_call15_v16 : Ref sig .tc := ⟨.hbm, 297, rfl⟩
abbrev main_v22 : Ref sig .tc := ⟨.hbm, 298, rfl⟩
abbrev main_call16_c : Ref sig .tc := ⟨.hbm, 299, rfl⟩
abbrev main_call16_call0_v0 : Ref sig .tc := ⟨.hbm, 300, rfl⟩
abbrev main_call16_v0 : Ref sig .tc := ⟨.hbm, 301, rfl⟩
abbrev main_call16_v1 : Ref sig .tc := ⟨.hbm, 302, rfl⟩
abbrev main_call16_v2 : Ref sig .tc := ⟨.hbm, 303, rfl⟩
abbrev main_call16_v3 : Ref sig .tc := ⟨.hbm, 304, rfl⟩
abbrev main_call16_v4 : Ref sig .tc := ⟨.hbm, 305, rfl⟩
abbrev main_call16_v5 : Ref sig .tc := ⟨.hbm, 306, rfl⟩
abbrev main_call16_v6 : Ref sig .tc := ⟨.hbm, 307, rfl⟩
abbrev main_call16_v7 : Ref sig .tc := ⟨.hbm, 308, rfl⟩
abbrev main_call16_v8 : Ref sig .tc := ⟨.hbm, 309, rfl⟩
abbrev main_call16_v9 : Ref sig .tc := ⟨.hbm, 310, rfl⟩
abbrev main_call16_v10 : Ref sig .tc := ⟨.hbm, 311, rfl⟩
abbrev main_call16_v11 : Ref sig .tc := ⟨.hbm, 312, rfl⟩
abbrev main_call16_v12 : Ref sig .tc := ⟨.hbm, 313, rfl⟩
abbrev main_call16_v13 : Ref sig .tc := ⟨.hbm, 314, rfl⟩
abbrev main_call16_v14 : Ref sig .tc := ⟨.hbm, 315, rfl⟩
abbrev main_call16_v15 : Ref sig .tc := ⟨.hbm, 316, rfl⟩
abbrev main_call16_v16 : Ref sig .tc := ⟨.hbm, 317, rfl⟩
abbrev main_v23 : Ref sig .tc := ⟨.hbm, 318, rfl⟩
abbrev main_call17_c : Ref sig .tc := ⟨.hbm, 319, rfl⟩
abbrev main_call17_call0_v0 : Ref sig .tc := ⟨.hbm, 320, rfl⟩
abbrev main_call17_v0 : Ref sig .tc := ⟨.hbm, 321, rfl⟩
abbrev main_call17_v1 : Ref sig .tc := ⟨.hbm, 322, rfl⟩
abbrev main_call17_v2 : Ref sig .tc := ⟨.hbm, 323, rfl⟩
abbrev main_call17_v3 : Ref sig .tc := ⟨.hbm, 324, rfl⟩
abbrev main_call17_v4 : Ref sig .tc := ⟨.hbm, 325, rfl⟩
abbrev main_call17_v5 : Ref sig .tc := ⟨.hbm, 326, rfl⟩
abbrev main_call17_v6 : Ref sig .tc := ⟨.hbm, 327, rfl⟩
abbrev main_call17_v7 : Ref sig .tc := ⟨.hbm, 328, rfl⟩
abbrev main_call17_v8 : Ref sig .tc := ⟨.hbm, 329, rfl⟩
abbrev main_call17_v9 : Ref sig .tc := ⟨.hbm, 330, rfl⟩
abbrev main_call17_v10 : Ref sig .tc := ⟨.hbm, 331, rfl⟩
abbrev main_call17_v11 : Ref sig .tc := ⟨.hbm, 332, rfl⟩
abbrev main_call17_v12 : Ref sig .tc := ⟨.hbm, 333, rfl⟩
abbrev main_call17_v13 : Ref sig .tc := ⟨.hbm, 334, rfl⟩
abbrev main_call17_v14 : Ref sig .tc := ⟨.hbm, 335, rfl⟩
abbrev main_call17_v15 : Ref sig .tc := ⟨.hbm, 336, rfl⟩
abbrev main_call17_v16 : Ref sig .tc := ⟨.hbm, 337, rfl⟩
abbrev main_v24 : Ref sig .tc := ⟨.hbm, 338, rfl⟩
abbrev main_call18_c : Ref sig .tc := ⟨.hbm, 339, rfl⟩
abbrev main_call18_call0_v0 : Ref sig .tc := ⟨.hbm, 340, rfl⟩
abbrev main_call18_v0 : Ref sig .tc := ⟨.hbm, 341, rfl⟩
abbrev main_call18_v1 : Ref sig .tc := ⟨.hbm, 342, rfl⟩
abbrev main_call18_v2 : Ref sig .tc := ⟨.hbm, 343, rfl⟩
abbrev main_call18_v3 : Ref sig .tc := ⟨.hbm, 344, rfl⟩
abbrev main_call18_v4 : Ref sig .tc := ⟨.hbm, 345, rfl⟩
abbrev main_call18_v5 : Ref sig .tc := ⟨.hbm, 346, rfl⟩
abbrev main_call18_v6 : Ref sig .tc := ⟨.hbm, 347, rfl⟩
abbrev main_call18_v7 : Ref sig .tc := ⟨.hbm, 348, rfl⟩
abbrev main_call18_v8 : Ref sig .tc := ⟨.hbm, 349, rfl⟩
abbrev main_call18_v9 : Ref sig .tc := ⟨.hbm, 350, rfl⟩
abbrev main_call18_v10 : Ref sig .tc := ⟨.hbm, 351, rfl⟩
abbrev main_call18_v11 : Ref sig .tc := ⟨.hbm, 352, rfl⟩
abbrev main_call18_v12 : Ref sig .tc := ⟨.hbm, 353, rfl⟩
abbrev main_call18_v13 : Ref sig .tc := ⟨.hbm, 354, rfl⟩
abbrev main_call18_v14 : Ref sig .tc := ⟨.hbm, 355, rfl⟩
abbrev main_call18_v15 : Ref sig .tc := ⟨.hbm, 356, rfl⟩
abbrev main_call18_v16 : Ref sig .tc := ⟨.hbm, 357, rfl⟩
abbrev main_v25 : Ref sig .tc := ⟨.hbm, 358, rfl⟩
abbrev main_call19_c : Ref sig .tc := ⟨.hbm, 359, rfl⟩
abbrev main_call19_call0_v0 : Ref sig .tc := ⟨.hbm, 360, rfl⟩
abbrev main_call19_v0 : Ref sig .tc := ⟨.hbm, 361, rfl⟩
abbrev main_call19_v1 : Ref sig .tc := ⟨.hbm, 362, rfl⟩
abbrev main_call19_v2 : Ref sig .tc := ⟨.hbm, 363, rfl⟩
abbrev main_call19_v3 : Ref sig .tc := ⟨.hbm, 364, rfl⟩
abbrev main_call19_v4 : Ref sig .tc := ⟨.hbm, 365, rfl⟩
abbrev main_call19_v5 : Ref sig .tc := ⟨.hbm, 366, rfl⟩
abbrev main_call19_v6 : Ref sig .tc := ⟨.hbm, 367, rfl⟩
abbrev main_call19_v7 : Ref sig .tc := ⟨.hbm, 368, rfl⟩
abbrev main_call19_v8 : Ref sig .tc := ⟨.hbm, 369, rfl⟩
abbrev main_call19_v9 : Ref sig .tc := ⟨.hbm, 370, rfl⟩
abbrev main_call19_v10 : Ref sig .tc := ⟨.hbm, 371, rfl⟩
abbrev main_call19_v11 : Ref sig .tc := ⟨.hbm, 372, rfl⟩
abbrev main_call19_v12 : Ref sig .tc := ⟨.hbm, 373, rfl⟩
abbrev main_call19_v13 : Ref sig .tc := ⟨.hbm, 374, rfl⟩
abbrev main_call19_v14 : Ref sig .tc := ⟨.hbm, 375, rfl⟩
abbrev main_call19_v15 : Ref sig .tc := ⟨.hbm, 376, rfl⟩
abbrev main_call19_v16 : Ref sig .tc := ⟨.hbm, 377, rfl⟩
abbrev main_v26 : Ref sig .tc := ⟨.hbm, 378, rfl⟩
abbrev main_call20_c : Ref sig .tc := ⟨.hbm, 379, rfl⟩
abbrev main_call20_call0_v0 : Ref sig .tc := ⟨.hbm, 380, rfl⟩
abbrev main_call20_v0 : Ref sig .tc := ⟨.hbm, 381, rfl⟩
abbrev main_call20_v1 : Ref sig .tc := ⟨.hbm, 382, rfl⟩
abbrev main_call20_v2 : Ref sig .tc := ⟨.hbm, 383, rfl⟩
abbrev main_call20_v3 : Ref sig .tc := ⟨.hbm, 384, rfl⟩
abbrev main_call20_v4 : Ref sig .tc := ⟨.hbm, 385, rfl⟩
abbrev main_call20_v5 : Ref sig .tc := ⟨.hbm, 386, rfl⟩
abbrev main_call20_v6 : Ref sig .tc := ⟨.hbm, 387, rfl⟩
abbrev main_call20_v7 : Ref sig .tc := ⟨.hbm, 388, rfl⟩
abbrev main_call20_v8 : Ref sig .tc := ⟨.hbm, 389, rfl⟩
abbrev main_call20_v9 : Ref sig .tc := ⟨.hbm, 390, rfl⟩
abbrev main_call20_v10 : Ref sig .tc := ⟨.hbm, 391, rfl⟩
abbrev main_call20_v11 : Ref sig .tc := ⟨.hbm, 392, rfl⟩
abbrev main_call20_v12 : Ref sig .tc := ⟨.hbm, 393, rfl⟩
abbrev main_call20_v13 : Ref sig .tc := ⟨.hbm, 394, rfl⟩
abbrev main_call20_v14 : Ref sig .tc := ⟨.hbm, 395, rfl⟩
abbrev main_call20_v15 : Ref sig .tc := ⟨.hbm, 396, rfl⟩
abbrev main_call20_v16 : Ref sig .tc := ⟨.hbm, 397, rfl⟩
abbrev main_v27 : Ref sig .tc := ⟨.hbm, 398, rfl⟩
abbrev main_call21_c : Ref sig .tc := ⟨.hbm, 399, rfl⟩
abbrev main_call21_call0_v0 : Ref sig .tc := ⟨.hbm, 400, rfl⟩
abbrev main_call21_v0 : Ref sig .tc := ⟨.hbm, 401, rfl⟩
abbrev main_call21_v1 : Ref sig .tc := ⟨.hbm, 402, rfl⟩
abbrev main_call21_v2 : Ref sig .tc := ⟨.hbm, 403, rfl⟩
abbrev main_call21_v3 : Ref sig .tc := ⟨.hbm, 404, rfl⟩
abbrev main_call21_v4 : Ref sig .tc := ⟨.hbm, 405, rfl⟩
abbrev main_call21_v5 : Ref sig .tc := ⟨.hbm, 406, rfl⟩
abbrev main_call21_v6 : Ref sig .tc := ⟨.hbm, 407, rfl⟩
abbrev main_call21_v7 : Ref sig .tc := ⟨.hbm, 408, rfl⟩
abbrev main_call21_v8 : Ref sig .tc := ⟨.hbm, 409, rfl⟩
abbrev main_call21_v9 : Ref sig .tc := ⟨.hbm, 410, rfl⟩
abbrev main_call21_v10 : Ref sig .tc := ⟨.hbm, 411, rfl⟩
abbrev main_call21_v11 : Ref sig .tc := ⟨.hbm, 412, rfl⟩
abbrev main_call21_v12 : Ref sig .tc := ⟨.hbm, 413, rfl⟩
abbrev main_call21_v13 : Ref sig .tc := ⟨.hbm, 414, rfl⟩
abbrev main_call21_v14 : Ref sig .tc := ⟨.hbm, 415, rfl⟩
abbrev main_call21_v15 : Ref sig .tc := ⟨.hbm, 416, rfl⟩
abbrev main_call21_v16 : Ref sig .tc := ⟨.hbm, 417, rfl⟩
abbrev main_v28 : Ref sig .tc := ⟨.hbm, 418, rfl⟩
abbrev main_call22_c : Ref sig .tc := ⟨.hbm, 419, rfl⟩
abbrev main_call22_call0_v0 : Ref sig .tc := ⟨.hbm, 420, rfl⟩
abbrev main_call22_v0 : Ref sig .tc := ⟨.hbm, 421, rfl⟩
abbrev main_call22_v1 : Ref sig .tc := ⟨.hbm, 422, rfl⟩
abbrev main_call22_v2 : Ref sig .tc := ⟨.hbm, 423, rfl⟩
abbrev main_call22_v3 : Ref sig .tc := ⟨.hbm, 424, rfl⟩
abbrev main_call22_v4 : Ref sig .tc := ⟨.hbm, 425, rfl⟩
abbrev main_call22_v5 : Ref sig .tc := ⟨.hbm, 426, rfl⟩
abbrev main_call22_v6 : Ref sig .tc := ⟨.hbm, 427, rfl⟩
abbrev main_call22_v7 : Ref sig .tc := ⟨.hbm, 428, rfl⟩
abbrev main_call22_v8 : Ref sig .tc := ⟨.hbm, 429, rfl⟩
abbrev main_call22_v9 : Ref sig .tc := ⟨.hbm, 430, rfl⟩
abbrev main_call22_v10 : Ref sig .tc := ⟨.hbm, 431, rfl⟩
abbrev main_call22_v11 : Ref sig .tc := ⟨.hbm, 432, rfl⟩
abbrev main_call22_v12 : Ref sig .tc := ⟨.hbm, 433, rfl⟩
abbrev main_call22_v13 : Ref sig .tc := ⟨.hbm, 434, rfl⟩
abbrev main_call22_v14 : Ref sig .tc := ⟨.hbm, 435, rfl⟩
abbrev main_call22_v15 : Ref sig .tc := ⟨.hbm, 436, rfl⟩
abbrev main_call22_v16 : Ref sig .tc := ⟨.hbm, 437, rfl⟩
abbrev main_v29 : Ref sig .tc := ⟨.hbm, 438, rfl⟩
abbrev main_call23_c : Ref sig .tc := ⟨.hbm, 439, rfl⟩
abbrev main_call23_call0_v0 : Ref sig .tc := ⟨.hbm, 440, rfl⟩
abbrev main_call23_v0 : Ref sig .tc := ⟨.hbm, 441, rfl⟩
abbrev main_call23_v1 : Ref sig .tc := ⟨.hbm, 442, rfl⟩
abbrev main_call23_v2 : Ref sig .tc := ⟨.hbm, 443, rfl⟩
abbrev main_call23_v3 : Ref sig .tc := ⟨.hbm, 444, rfl⟩
abbrev main_call23_v4 : Ref sig .tc := ⟨.hbm, 445, rfl⟩
abbrev main_call23_v5 : Ref sig .tc := ⟨.hbm, 446, rfl⟩
abbrev main_call23_v6 : Ref sig .tc := ⟨.hbm, 447, rfl⟩
abbrev main_call23_v7 : Ref sig .tc := ⟨.hbm, 448, rfl⟩
abbrev main_call23_v8 : Ref sig .tc := ⟨.hbm, 449, rfl⟩
abbrev main_call23_v9 : Ref sig .tc := ⟨.hbm, 450, rfl⟩
abbrev main_call23_v10 : Ref sig .tc := ⟨.hbm, 451, rfl⟩
abbrev main_call23_v11 : Ref sig .tc := ⟨.hbm, 452, rfl⟩
abbrev main_call23_v12 : Ref sig .tc := ⟨.hbm, 453, rfl⟩
abbrev main_call23_v13 : Ref sig .tc := ⟨.hbm, 454, rfl⟩
abbrev main_call23_v14 : Ref sig .tc := ⟨.hbm, 455, rfl⟩
abbrev main_call23_v15 : Ref sig .tc := ⟨.hbm, 456, rfl⟩
abbrev main_call23_v16 : Ref sig .tc := ⟨.hbm, 457, rfl⟩
abbrev main_v30 : Ref sig .tc := ⟨.hbm, 458, rfl⟩
abbrev main_call24_c : Ref sig .tc := ⟨.hbm, 459, rfl⟩
abbrev main_call24_call0_v0 : Ref sig .tc := ⟨.hbm, 460, rfl⟩
abbrev main_call24_v0 : Ref sig .tc := ⟨.hbm, 461, rfl⟩
abbrev main_call24_v1 : Ref sig .tc := ⟨.hbm, 462, rfl⟩
abbrev main_call24_v2 : Ref sig .tc := ⟨.hbm, 463, rfl⟩
abbrev main_call24_v3 : Ref sig .tc := ⟨.hbm, 464, rfl⟩
abbrev main_call24_v4 : Ref sig .tc := ⟨.hbm, 465, rfl⟩
abbrev main_call24_v5 : Ref sig .tc := ⟨.hbm, 466, rfl⟩
abbrev main_call24_v6 : Ref sig .tc := ⟨.hbm, 467, rfl⟩
abbrev main_call24_v7 : Ref sig .tc := ⟨.hbm, 468, rfl⟩
abbrev main_call24_v8 : Ref sig .tc := ⟨.hbm, 469, rfl⟩
abbrev main_call24_v9 : Ref sig .tc := ⟨.hbm, 470, rfl⟩
abbrev main_call24_v10 : Ref sig .tc := ⟨.hbm, 471, rfl⟩
abbrev main_call24_v11 : Ref sig .tc := ⟨.hbm, 472, rfl⟩
abbrev main_call24_v12 : Ref sig .tc := ⟨.hbm, 473, rfl⟩
abbrev main_call24_v13 : Ref sig .tc := ⟨.hbm, 474, rfl⟩
abbrev main_call24_v14 : Ref sig .tc := ⟨.hbm, 475, rfl⟩
abbrev main_call24_v15 : Ref sig .tc := ⟨.hbm, 476, rfl⟩
abbrev main_call24_v16 : Ref sig .tc := ⟨.hbm, 477, rfl⟩
abbrev main_v31 : Ref sig .tc := ⟨.hbm, 478, rfl⟩
abbrev main_call25_c : Ref sig .tc := ⟨.hbm, 479, rfl⟩
abbrev main_call25_call0_v0 : Ref sig .tc := ⟨.hbm, 480, rfl⟩
abbrev main_call25_v0 : Ref sig .tc := ⟨.hbm, 481, rfl⟩
abbrev main_call25_v1 : Ref sig .tc := ⟨.hbm, 482, rfl⟩
abbrev main_call25_v2 : Ref sig .tc := ⟨.hbm, 483, rfl⟩
abbrev main_call25_v3 : Ref sig .tc := ⟨.hbm, 484, rfl⟩
abbrev main_call25_v4 : Ref sig .tc := ⟨.hbm, 485, rfl⟩
abbrev main_call25_v5 : Ref sig .tc := ⟨.hbm, 486, rfl⟩
abbrev main_call25_v6 : Ref sig .tc := ⟨.hbm, 487, rfl⟩
abbrev main_call25_v7 : Ref sig .tc := ⟨.hbm, 488, rfl⟩
abbrev main_call25_v8 : Ref sig .tc := ⟨.hbm, 489, rfl⟩
abbrev main_call25_v9 : Ref sig .tc := ⟨.hbm, 490, rfl⟩
abbrev main_call25_v10 : Ref sig .tc := ⟨.hbm, 491, rfl⟩
abbrev main_call25_v11 : Ref sig .tc := ⟨.hbm, 492, rfl⟩
abbrev main_call25_v12 : Ref sig .tc := ⟨.hbm, 493, rfl⟩
abbrev main_call25_v13 : Ref sig .tc := ⟨.hbm, 494, rfl⟩
abbrev main_call25_v14 : Ref sig .tc := ⟨.hbm, 495, rfl⟩
abbrev main_call25_v15 : Ref sig .tc := ⟨.hbm, 496, rfl⟩
abbrev main_call25_v16 : Ref sig .tc := ⟨.hbm, 497, rfl⟩
abbrev main_v32 : Ref sig .tc := ⟨.hbm, 498, rfl⟩
abbrev main_call26_c : Ref sig .tc := ⟨.hbm, 499, rfl⟩
abbrev main_call26_call0_v0 : Ref sig .tc := ⟨.hbm, 500, rfl⟩
abbrev main_call26_v0 : Ref sig .tc := ⟨.hbm, 501, rfl⟩
abbrev main_call26_v1 : Ref sig .tc := ⟨.hbm, 502, rfl⟩
abbrev main_call26_v2 : Ref sig .tc := ⟨.hbm, 503, rfl⟩
abbrev main_call26_v3 : Ref sig .tc := ⟨.hbm, 504, rfl⟩
abbrev main_call26_v4 : Ref sig .tc := ⟨.hbm, 505, rfl⟩
abbrev main_call26_v5 : Ref sig .tc := ⟨.hbm, 506, rfl⟩
abbrev main_call26_v6 : Ref sig .tc := ⟨.hbm, 507, rfl⟩
abbrev main_call26_v7 : Ref sig .tc := ⟨.hbm, 508, rfl⟩
abbrev main_call26_v8 : Ref sig .tc := ⟨.hbm, 509, rfl⟩
abbrev main_call26_v9 : Ref sig .tc := ⟨.hbm, 510, rfl⟩
abbrev main_call26_v10 : Ref sig .tc := ⟨.hbm, 511, rfl⟩
abbrev main_call26_v11 : Ref sig .tc := ⟨.hbm, 512, rfl⟩
abbrev main_call26_v12 : Ref sig .tc := ⟨.hbm, 513, rfl⟩
abbrev main_call26_v13 : Ref sig .tc := ⟨.hbm, 514, rfl⟩
abbrev main_call26_v14 : Ref sig .tc := ⟨.hbm, 515, rfl⟩
abbrev main_call26_v15 : Ref sig .tc := ⟨.hbm, 516, rfl⟩
abbrev main_call26_v16 : Ref sig .tc := ⟨.hbm, 517, rfl⟩
abbrev main_v33 : Ref sig .tc := ⟨.hbm, 518, rfl⟩
abbrev main_call27_c : Ref sig .tc := ⟨.hbm, 519, rfl⟩
abbrev main_call27_call0_v0 : Ref sig .tc := ⟨.hbm, 520, rfl⟩
abbrev main_call27_v0 : Ref sig .tc := ⟨.hbm, 521, rfl⟩
abbrev main_call27_v1 : Ref sig .tc := ⟨.hbm, 522, rfl⟩
abbrev main_call27_v2 : Ref sig .tc := ⟨.hbm, 523, rfl⟩
abbrev main_call27_v3 : Ref sig .tc := ⟨.hbm, 524, rfl⟩
abbrev main_call27_v4 : Ref sig .tc := ⟨.hbm, 525, rfl⟩
abbrev main_call27_v5 : Ref sig .tc := ⟨.hbm, 526, rfl⟩
abbrev main_call27_v6 : Ref sig .tc := ⟨.hbm, 527, rfl⟩
abbrev main_call27_v7 : Ref sig .tc := ⟨.hbm, 528, rfl⟩
abbrev main_call27_v8 : Ref sig .tc := ⟨.hbm, 529, rfl⟩
abbrev main_call27_v9 : Ref sig .tc := ⟨.hbm, 530, rfl⟩
abbrev main_call27_v10 : Ref sig .tc := ⟨.hbm, 531, rfl⟩
abbrev main_call27_v11 : Ref sig .tc := ⟨.hbm, 532, rfl⟩
abbrev main_call27_v12 : Ref sig .tc := ⟨.hbm, 533, rfl⟩
abbrev main_call27_v13 : Ref sig .tc := ⟨.hbm, 534, rfl⟩
abbrev main_call27_v14 : Ref sig .tc := ⟨.hbm, 535, rfl⟩
abbrev main_call27_v15 : Ref sig .tc := ⟨.hbm, 536, rfl⟩
abbrev main_call27_v16 : Ref sig .tc := ⟨.hbm, 537, rfl⟩
abbrev main_v34 : Ref sig .tc := ⟨.hbm, 538, rfl⟩
abbrev main_call28_c : Ref sig .tc := ⟨.hbm, 539, rfl⟩
abbrev main_call28_call0_v0 : Ref sig .tc := ⟨.hbm, 540, rfl⟩
abbrev main_call28_v0 : Ref sig .tc := ⟨.hbm, 541, rfl⟩
abbrev main_call28_v1 : Ref sig .tc := ⟨.hbm, 542, rfl⟩
abbrev main_call28_v2 : Ref sig .tc := ⟨.hbm, 543, rfl⟩
abbrev main_call28_v3 : Ref sig .tc := ⟨.hbm, 544, rfl⟩
abbrev main_call28_v4 : Ref sig .tc := ⟨.hbm, 545, rfl⟩
abbrev main_call28_v5 : Ref sig .tc := ⟨.hbm, 546, rfl⟩
abbrev main_call28_v6 : Ref sig .tc := ⟨.hbm, 547, rfl⟩
abbrev main_call28_v7 : Ref sig .tc := ⟨.hbm, 548, rfl⟩
abbrev main_call28_v8 : Ref sig .tc := ⟨.hbm, 549, rfl⟩
abbrev main_call28_v9 : Ref sig .tc := ⟨.hbm, 550, rfl⟩
abbrev main_call28_v10 : Ref sig .tc := ⟨.hbm, 551, rfl⟩
abbrev main_call28_v11 : Ref sig .tc := ⟨.hbm, 552, rfl⟩
abbrev main_call28_v12 : Ref sig .tc := ⟨.hbm, 553, rfl⟩
abbrev main_call28_v13 : Ref sig .tc := ⟨.hbm, 554, rfl⟩
abbrev main_call28_v14 : Ref sig .tc := ⟨.hbm, 555, rfl⟩
abbrev main_call28_v15 : Ref sig .tc := ⟨.hbm, 556, rfl⟩
abbrev main_call28_v16 : Ref sig .tc := ⟨.hbm, 557, rfl⟩
abbrev main_v35 : Ref sig .tc := ⟨.hbm, 558, rfl⟩
abbrev main_call29_c : Ref sig .tc := ⟨.hbm, 559, rfl⟩
abbrev main_call29_call0_v0 : Ref sig .tc := ⟨.hbm, 560, rfl⟩
abbrev main_call29_v0 : Ref sig .tc := ⟨.hbm, 561, rfl⟩
abbrev main_call29_v1 : Ref sig .tc := ⟨.hbm, 562, rfl⟩
abbrev main_call29_v2 : Ref sig .tc := ⟨.hbm, 563, rfl⟩
abbrev main_call29_v3 : Ref sig .tc := ⟨.hbm, 564, rfl⟩
abbrev main_call29_v4 : Ref sig .tc := ⟨.hbm, 565, rfl⟩
abbrev main_call29_v5 : Ref sig .tc := ⟨.hbm, 566, rfl⟩
abbrev main_call29_v6 : Ref sig .tc := ⟨.hbm, 567, rfl⟩
abbrev main_call29_v7 : Ref sig .tc := ⟨.hbm, 568, rfl⟩
abbrev main_call29_v8 : Ref sig .tc := ⟨.hbm, 569, rfl⟩
abbrev main_call29_v9 : Ref sig .tc := ⟨.hbm, 570, rfl⟩
abbrev main_call29_v10 : Ref sig .tc := ⟨.hbm, 571, rfl⟩
abbrev main_call29_v11 : Ref sig .tc := ⟨.hbm, 572, rfl⟩
abbrev main_call29_v12 : Ref sig .tc := ⟨.hbm, 573, rfl⟩
abbrev main_call29_v13 : Ref sig .tc := ⟨.hbm, 574, rfl⟩
abbrev main_call29_v14 : Ref sig .tc := ⟨.hbm, 575, rfl⟩
abbrev main_call29_v15 : Ref sig .tc := ⟨.hbm, 576, rfl⟩
abbrev main_call29_v16 : Ref sig .tc := ⟨.hbm, 577, rfl⟩
abbrev main_v36 : Ref sig .tc := ⟨.hbm, 578, rfl⟩
abbrev main_call30_c : Ref sig .tc := ⟨.hbm, 579, rfl⟩
abbrev main_call30_call0_v0 : Ref sig .tc := ⟨.hbm, 580, rfl⟩
abbrev main_call30_v0 : Ref sig .tc := ⟨.hbm, 581, rfl⟩
abbrev main_call30_v1 : Ref sig .tc := ⟨.hbm, 582, rfl⟩
abbrev main_call30_v2 : Ref sig .tc := ⟨.hbm, 583, rfl⟩
abbrev main_call30_v3 : Ref sig .tc := ⟨.hbm, 584, rfl⟩
abbrev main_call30_v4 : Ref sig .tc := ⟨.hbm, 585, rfl⟩
abbrev main_call30_v5 : Ref sig .tc := ⟨.hbm, 586, rfl⟩
abbrev main_call30_v6 : Ref sig .tc := ⟨.hbm, 587, rfl⟩
abbrev main_call30_v7 : Ref sig .tc := ⟨.hbm, 588, rfl⟩
abbrev main_call30_v8 : Ref sig .tc := ⟨.hbm, 589, rfl⟩
abbrev main_call30_v9 : Ref sig .tc := ⟨.hbm, 590, rfl⟩
abbrev main_call30_v10 : Ref sig .tc := ⟨.hbm, 591, rfl⟩
abbrev main_call30_v11 : Ref sig .tc := ⟨.hbm, 592, rfl⟩
abbrev main_call30_v12 : Ref sig .tc := ⟨.hbm, 593, rfl⟩
abbrev main_call30_v13 : Ref sig .tc := ⟨.hbm, 594, rfl⟩
abbrev main_call30_v14 : Ref sig .tc := ⟨.hbm, 595, rfl⟩
abbrev main_call30_v15 : Ref sig .tc := ⟨.hbm, 596, rfl⟩
abbrev main_call30_v16 : Ref sig .tc := ⟨.hbm, 597, rfl⟩
abbrev main_v37 : Ref sig .tc := ⟨.hbm, 598, rfl⟩
abbrev main_call31_c : Ref sig .tc := ⟨.hbm, 599, rfl⟩
abbrev main_call31_call0_v0 : Ref sig .tc := ⟨.hbm, 600, rfl⟩
abbrev main_call31_v0 : Ref sig .tc := ⟨.hbm, 601, rfl⟩
abbrev main_call31_v1 : Ref sig .tc := ⟨.hbm, 602, rfl⟩
abbrev main_call31_v2 : Ref sig .tc := ⟨.hbm, 603, rfl⟩
abbrev main_call31_v3 : Ref sig .tc := ⟨.hbm, 604, rfl⟩
abbrev main_call31_v4 : Ref sig .tc := ⟨.hbm, 605, rfl⟩
abbrev main_call31_v5 : Ref sig .tc := ⟨.hbm, 606, rfl⟩
abbrev main_call31_v6 : Ref sig .tc := ⟨.hbm, 607, rfl⟩
abbrev main_call31_v7 : Ref sig .tc := ⟨.hbm, 608, rfl⟩
abbrev main_call31_v8 : Ref sig .tc := ⟨.hbm, 609, rfl⟩
abbrev main_call31_v9 : Ref sig .tc := ⟨.hbm, 610, rfl⟩
abbrev main_call31_v10 : Ref sig .tc := ⟨.hbm, 611, rfl⟩
abbrev main_call31_v11 : Ref sig .tc := ⟨.hbm, 612, rfl⟩
abbrev main_call31_v12 : Ref sig .tc := ⟨.hbm, 613, rfl⟩
abbrev main_call31_v13 : Ref sig .tc := ⟨.hbm, 614, rfl⟩
abbrev main_call31_v14 : Ref sig .tc := ⟨.hbm, 615, rfl⟩
abbrev main_call31_v15 : Ref sig .tc := ⟨.hbm, 616, rfl⟩
abbrev main_call31_v16 : Ref sig .tc := ⟨.hbm, 617, rfl⟩
abbrev main_v38 : Ref sig .tc := ⟨.hbm, 618, rfl⟩
abbrev main_call32_c : Ref sig .tc := ⟨.hbm, 619, rfl⟩
abbrev main_call32_call0_v0 : Ref sig .tc := ⟨.hbm, 620, rfl⟩
abbrev main_call32_v0 : Ref sig .tc := ⟨.hbm, 621, rfl⟩
abbrev main_call32_v1 : Ref sig .tc := ⟨.hbm, 622, rfl⟩
abbrev main_call32_v2 : Ref sig .tc := ⟨.hbm, 623, rfl⟩
abbrev main_call32_v3 : Ref sig .tc := ⟨.hbm, 624, rfl⟩
abbrev main_call32_v4 : Ref sig .tc := ⟨.hbm, 625, rfl⟩
abbrev main_call32_v5 : Ref sig .tc := ⟨.hbm, 626, rfl⟩
abbrev main_call32_v6 : Ref sig .tc := ⟨.hbm, 627, rfl⟩
abbrev main_call32_v7 : Ref sig .tc := ⟨.hbm, 628, rfl⟩
abbrev main_call32_v8 : Ref sig .tc := ⟨.hbm, 629, rfl⟩
abbrev main_call32_v9 : Ref sig .tc := ⟨.hbm, 630, rfl⟩
abbrev main_call32_v10 : Ref sig .tc := ⟨.hbm, 631, rfl⟩
abbrev main_call32_v11 : Ref sig .tc := ⟨.hbm, 632, rfl⟩
abbrev main_call32_v12 : Ref sig .tc := ⟨.hbm, 633, rfl⟩
abbrev main_call32_v13 : Ref sig .tc := ⟨.hbm, 634, rfl⟩
abbrev main_call32_v14 : Ref sig .tc := ⟨.hbm, 635, rfl⟩
abbrev main_call32_v15 : Ref sig .tc := ⟨.hbm, 636, rfl⟩
abbrev main_call32_v16 : Ref sig .tc := ⟨.hbm, 637, rfl⟩
abbrev main_v39 : Ref sig .tc := ⟨.hbm, 638, rfl⟩
abbrev main_call33_c : Ref sig .tc := ⟨.hbm, 639, rfl⟩
abbrev main_call33_call0_v0 : Ref sig .tc := ⟨.hbm, 640, rfl⟩
abbrev main_call33_v0 : Ref sig .tc := ⟨.hbm, 641, rfl⟩
abbrev main_call33_v1 : Ref sig .tc := ⟨.hbm, 642, rfl⟩
abbrev main_call33_v2 : Ref sig .tc := ⟨.hbm, 643, rfl⟩
abbrev main_call33_v3 : Ref sig .tc := ⟨.hbm, 644, rfl⟩
abbrev main_call33_v4 : Ref sig .tc := ⟨.hbm, 645, rfl⟩
abbrev main_call33_v5 : Ref sig .tc := ⟨.hbm, 646, rfl⟩
abbrev main_call33_v6 : Ref sig .tc := ⟨.hbm, 647, rfl⟩
abbrev main_call33_v7 : Ref sig .tc := ⟨.hbm, 648, rfl⟩
abbrev main_call33_v8 : Ref sig .tc := ⟨.hbm, 649, rfl⟩
abbrev main_call33_v9 : Ref sig .tc := ⟨.hbm, 650, rfl⟩
abbrev main_call33_v10 : Ref sig .tc := ⟨.hbm, 651, rfl⟩
abbrev main_call33_v11 : Ref sig .tc := ⟨.hbm, 652, rfl⟩
abbrev main_call33_v12 : Ref sig .tc := ⟨.hbm, 653, rfl⟩
abbrev main_call33_v13 : Ref sig .tc := ⟨.hbm, 654, rfl⟩
abbrev main_call33_v14 : Ref sig .tc := ⟨.hbm, 655, rfl⟩
abbrev main_call33_v15 : Ref sig .tc := ⟨.hbm, 656, rfl⟩
abbrev main_call33_v16 : Ref sig .tc := ⟨.hbm, 657, rfl⟩
abbrev main_v40 : Ref sig .tc := ⟨.hbm, 658, rfl⟩
abbrev main_call34_c : Ref sig .tc := ⟨.hbm, 659, rfl⟩
abbrev main_call34_call0_v0 : Ref sig .tc := ⟨.hbm, 660, rfl⟩
abbrev main_call34_v0 : Ref sig .tc := ⟨.hbm, 661, rfl⟩
abbrev main_call34_v1 : Ref sig .tc := ⟨.hbm, 662, rfl⟩
abbrev main_call34_v2 : Ref sig .tc := ⟨.hbm, 663, rfl⟩
abbrev main_call34_v3 : Ref sig .tc := ⟨.hbm, 664, rfl⟩
abbrev main_call34_v4 : Ref sig .tc := ⟨.hbm, 665, rfl⟩
abbrev main_call34_v5 : Ref sig .tc := ⟨.hbm, 666, rfl⟩
abbrev main_call34_v6 : Ref sig .tc := ⟨.hbm, 667, rfl⟩
abbrev main_call34_v7 : Ref sig .tc := ⟨.hbm, 668, rfl⟩
abbrev main_call34_v8 : Ref sig .tc := ⟨.hbm, 669, rfl⟩
abbrev main_call34_v9 : Ref sig .tc := ⟨.hbm, 670, rfl⟩
abbrev main_call34_v10 : Ref sig .tc := ⟨.hbm, 671, rfl⟩
abbrev main_call34_v11 : Ref sig .tc := ⟨.hbm, 672, rfl⟩
abbrev main_call34_v12 : Ref sig .tc := ⟨.hbm, 673, rfl⟩
abbrev main_call34_v13 : Ref sig .tc := ⟨.hbm, 674, rfl⟩
abbrev main_call34_v14 : Ref sig .tc := ⟨.hbm, 675, rfl⟩
abbrev main_call34_v15 : Ref sig .tc := ⟨.hbm, 676, rfl⟩
abbrev main_call34_v16 : Ref sig .tc := ⟨.hbm, 677, rfl⟩
abbrev main_v41 : Ref sig .tc := ⟨.hbm, 678, rfl⟩
abbrev main_call35_c : Ref sig .tc := ⟨.hbm, 679, rfl⟩
abbrev main_call35_call0_v0 : Ref sig .tc := ⟨.hbm, 680, rfl⟩
abbrev main_call35_v0 : Ref sig .tc := ⟨.hbm, 681, rfl⟩
abbrev main_call35_v1 : Ref sig .tc := ⟨.hbm, 682, rfl⟩
abbrev main_call35_v2 : Ref sig .tc := ⟨.hbm, 683, rfl⟩
abbrev main_call35_v3 : Ref sig .tc := ⟨.hbm, 684, rfl⟩
abbrev main_call35_v4 : Ref sig .tc := ⟨.hbm, 685, rfl⟩
abbrev main_call35_v5 : Ref sig .tc := ⟨.hbm, 686, rfl⟩
abbrev main_call35_v6 : Ref sig .tc := ⟨.hbm, 687, rfl⟩
abbrev main_call35_v7 : Ref sig .tc := ⟨.hbm, 688, rfl⟩
abbrev main_call35_v8 : Ref sig .tc := ⟨.hbm, 689, rfl⟩
abbrev main_call35_v9 : Ref sig .tc := ⟨.hbm, 690, rfl⟩
abbrev main_call35_v10 : Ref sig .tc := ⟨.hbm, 691, rfl⟩
abbrev main_call35_v11 : Ref sig .tc := ⟨.hbm, 692, rfl⟩
abbrev main_call35_v12 : Ref sig .tc := ⟨.hbm, 693, rfl⟩
abbrev main_call35_v13 : Ref sig .tc := ⟨.hbm, 694, rfl⟩
abbrev main_call35_v14 : Ref sig .tc := ⟨.hbm, 695, rfl⟩
abbrev main_call35_v15 : Ref sig .tc := ⟨.hbm, 696, rfl⟩
abbrev main_call35_v16 : Ref sig .tc := ⟨.hbm, 697, rfl⟩
abbrev main_v42 : Ref sig .tc := ⟨.hbm, 698, rfl⟩
abbrev main_call36_c : Ref sig .tc := ⟨.hbm, 699, rfl⟩
abbrev main_call36_call0_v0 : Ref sig .tc := ⟨.hbm, 700, rfl⟩
abbrev main_call36_v0 : Ref sig .tc := ⟨.hbm, 701, rfl⟩
abbrev main_call36_v1 : Ref sig .tc := ⟨.hbm, 702, rfl⟩
abbrev main_call36_v2 : Ref sig .tc := ⟨.hbm, 703, rfl⟩
abbrev main_call36_v3 : Ref sig .tc := ⟨.hbm, 704, rfl⟩
abbrev main_call36_v4 : Ref sig .tc := ⟨.hbm, 705, rfl⟩
abbrev main_call36_v5 : Ref sig .tc := ⟨.hbm, 706, rfl⟩
abbrev main_call36_v6 : Ref sig .tc := ⟨.hbm, 707, rfl⟩
abbrev main_call36_v7 : Ref sig .tc := ⟨.hbm, 708, rfl⟩
abbrev main_call36_v8 : Ref sig .tc := ⟨.hbm, 709, rfl⟩
abbrev main_call36_v9 : Ref sig .tc := ⟨.hbm, 710, rfl⟩
abbrev main_call36_v10 : Ref sig .tc := ⟨.hbm, 711, rfl⟩
abbrev main_call36_v11 : Ref sig .tc := ⟨.hbm, 712, rfl⟩
abbrev main_call36_v12 : Ref sig .tc := ⟨.hbm, 713, rfl⟩
abbrev main_call36_v13 : Ref sig .tc := ⟨.hbm, 714, rfl⟩
abbrev main_call36_v14 : Ref sig .tc := ⟨.hbm, 715, rfl⟩
abbrev main_call36_v15 : Ref sig .tc := ⟨.hbm, 716, rfl⟩
abbrev main_call36_v16 : Ref sig .tc := ⟨.hbm, 717, rfl⟩
abbrev main_v43 : Ref sig .tc := ⟨.hbm, 718, rfl⟩
abbrev main_call37_c : Ref sig .tc := ⟨.hbm, 719, rfl⟩
abbrev main_call37_call0_v0 : Ref sig .tc := ⟨.hbm, 720, rfl⟩
abbrev main_call37_v0 : Ref sig .tc := ⟨.hbm, 721, rfl⟩
abbrev main_call37_v1 : Ref sig .tc := ⟨.hbm, 722, rfl⟩
abbrev main_call37_v2 : Ref sig .tc := ⟨.hbm, 723, rfl⟩
abbrev main_call37_v3 : Ref sig .tc := ⟨.hbm, 724, rfl⟩
abbrev main_call37_v4 : Ref sig .tc := ⟨.hbm, 725, rfl⟩
abbrev main_call37_v5 : Ref sig .tc := ⟨.hbm, 726, rfl⟩
abbrev main_call37_v6 : Ref sig .tc := ⟨.hbm, 727, rfl⟩
abbrev main_call37_v7 : Ref sig .tc := ⟨.hbm, 728, rfl⟩
abbrev main_call37_v8 : Ref sig .tc := ⟨.hbm, 729, rfl⟩
abbrev main_call37_v9 : Ref sig .tc := ⟨.hbm, 730, rfl⟩
abbrev main_call37_v10 : Ref sig .tc := ⟨.hbm, 731, rfl⟩
abbrev main_call37_v11 : Ref sig .tc := ⟨.hbm, 732, rfl⟩
abbrev main_call37_v12 : Ref sig .tc := ⟨.hbm, 733, rfl⟩
abbrev main_call37_v13 : Ref sig .tc := ⟨.hbm, 734, rfl⟩
abbrev main_call37_v14 : Ref sig .tc := ⟨.hbm, 735, rfl⟩
abbrev main_call37_v15 : Ref sig .tc := ⟨.hbm, 736, rfl⟩
abbrev main_call37_v16 : Ref sig .tc := ⟨.hbm, 737, rfl⟩
abbrev main_v44 : Ref sig .tc := ⟨.hbm, 738, rfl⟩
abbrev main_v45 : Ref sig .tc := ⟨.hbm, 739, rfl⟩
abbrev main_c : Ref sig .tc := ⟨.hbm, 740, rfl⟩
abbrev main_call38_v0 : Ref sig .tc := ⟨.hbm, 741, rfl⟩
abbrev main_call38_c : Ref sig .tc := ⟨.hbm, 742, rfl⟩
abbrev main_call38_v1 : Ref sig .tc := ⟨.hbm, 743, rfl⟩
abbrev main_call38_c_0 : Ref sig .tc := ⟨.hbm, 744, rfl⟩
abbrev main_call38_v2 : Ref sig .tc := ⟨.hbm, 745, rfl⟩
abbrev main_call38_v3 : Ref sig .tc := ⟨.hbm, 746, rfl⟩
abbrev main_call38_v4 : Ref sig .tc := ⟨.hbm, 747, rfl⟩
abbrev main_call38_c_1 : Ref sig .tc := ⟨.hbm, 748, rfl⟩
abbrev main_call38_v5 : Ref sig .tc := ⟨.hbm, 749, rfl⟩
abbrev main_call38_v6 : Ref sig .tc := ⟨.hbm, 750, rfl⟩
abbrev main_call38_c_2 : Ref sig .tc := ⟨.hbm, 751, rfl⟩
abbrev main_call38_v7 : Ref sig .tc := ⟨.hbm, 752, rfl⟩
abbrev main_call38_v8 : Ref sig .tc := ⟨.hbm, 753, rfl⟩
abbrev main_call38_c_3 : Ref sig .tc := ⟨.hbm, 754, rfl⟩
abbrev main_call38_v9 : Ref sig .tc := ⟨.hbm, 755, rfl⟩
abbrev main_call38_v10 : Ref sig .tc := ⟨.hbm, 756, rfl⟩
abbrev main_call38_v11 : Ref sig .tc := ⟨.hbm, 757, rfl⟩
abbrev main_call38_v12 : Ref sig .tc := ⟨.hbm, 758, rfl⟩
abbrev main_call38_v13 : Ref sig .tc := ⟨.hbm, 759, rfl⟩
abbrev main_call38_v14 : Ref sig .tc := ⟨.hbm, 760, rfl⟩
abbrev main_v46 : Ref sig .tc := ⟨.hbm, 761, rfl⟩
abbrev main_c_4 : Ref sig .tc := ⟨.hbm, 762, rfl⟩
abbrev main_v47 : Ref sig .tc := ⟨.hbm, 763, rfl⟩
abbrev main_v48 : Ref sig .tc := ⟨.hbm, 764, rfl⟩
abbrev main_v49 : Ref sig .tc := ⟨.hbm, 765, rfl⟩
abbrev main_call39_v0 : Ref sig .tc := ⟨.hbm, 766, rfl⟩
abbrev main_v50 : Ref sig .tc := ⟨.hbm, 767, rfl⟩

abbrev nD : Nat := 1
abbrev τ : Topo := Topo.v7x

variable {F : FTy → Type} [FloatOps F]
-- ==== Proof.Words.lean ====
/-
  The kernel's arithmetic on packed words, written once: a word of the packed volume holds 32 consecutive depth
  slices of one (row, column) position, bit `j` of word plane `p` being depth `32 * p + j`. The six one-voxel shifts
  of a packed volume, the two-sided OR pass built from a shift and its opposite, the chain of 18 passes, and the two
  chains with the complements between them that one batch entry goes through (`morph`).
-/
module

public import proofs.«01_k».proof.Proof.Gen.KernelIdeal.Skeleton

@[expose] public section

set_option maxRecDepth 16384

noncomputable section

namespace Cert.KernelIdeal.Words

open Cert.KernelIdeal Cert.KernelIdeal.Gen
open Idealize.ShloMosaic

/-- A packed volume: 5 word planes of 160 × 160 words. -/
abbrev Packed : Type := IVec S5x160x160 32

/-- The packed volume whose voxel at depth `d` is `V`'s at `d + 1`, the last depth filled from the word `f`. -/
def dUp (f : BitVec 32) (V : Packed) : Packed :=
  ori (shrui V (broadcast S5x160x160 1#32))
    (shli (concatenate S5x160x160 0 [⟨S4x160x160, extractStridedSlice S4x160x160 ![1, 0, 0] V slices_S5x160x160_o1_0_0_S4x160x160⟩,
        ⟨S1x160x160, broadcast S1x160x160 f⟩] concatenates_S4x160x160_S1x160x160_S5x160x160_d0) (broadcast S5x160x160 31#32))

/-- The packed volume whose voxel at depth `d` is `V`'s at `d - 1`, the first depth filled from the word `f`. -/
def dDown (f : BitVec 32) (V : Packed) : Packed :=
  ori (shli V (broadcast S5x160x160 1#32))
    (shrui (concatenate S5x160x160 0 [⟨S1x160x160, broadcast S1x160x160 f⟩,
        ⟨S4x160x160, extractStridedSlice S4x160x160 ![0, 0, 0] V slices_S5x160x160_o0_0_0_S4x160x160⟩] concatenates_S1x160x160_S4x160x160_S5x160x160_d0)
      (broadcast S5x160x160 31#32))

/-- The packed volume whose voxel at row `h` is `V`'s at `h + 1`, the last row the word `f`. -/
def hUp (f : BitVec 32) (V : Packed) : Packed :=
  concatenate S5x160x160 1 [⟨S5x159x160, extractStridedSlice S5x159x160 ![0, 1, 0] V slices_S5x160x160_o0_1_0_S5x159x160⟩,
    ⟨S5x1x160, broadcast S5x1x160 f⟩] concatenates_S5x159x160_S5x1x160_S5x160x160_d1

/-- The packed volume whose voxel at row `h` is `V`'s at `h - 1`, the first row the word `f`. -/
def hDown (f : BitVec 32) (V : Packed) : Packed :=
  concatenate S5x160x160 1 [⟨S5x1x160, broadcast S5x1x160 f⟩,
    ⟨S5x159x160, extractStridedSlice S5x159x160 ![0, 0, 0] V slices_S5x160x160_o0_0_0_S5x159x160⟩] concatenates_S5x1x160_S5x159x160_S5x160x160_d1

/-- The packed volume whose voxel at column `w` is `V`'s at `w + 1`, the last column the word `f`. -/
def wUp (f : BitVec 32) (V : Packed) : Packed :=
  concatenate S5x160x160 2 [⟨S5x160x159, extractStridedSlice S5x160x159 ![0, 0, 1] V slices_S5x160x160_o0_0_1_S5x160x159⟩,
    ⟨S5x160x1, broadcast S5x160x1 f⟩] concatenates_S5x160x159_S5x160x1_S5x160x160_d2

/-- The packed volume whose voxel at column `w` is `V`'s at `w - 1`, the first column the word `f`. -/
def wDown (f : BitVec 32) (V : Packed) : Packed :=
  concatenate S5x160x160 2 [⟨S5x160x1, broadcast S5x160x1 f⟩,
    ⟨S5x160x159, extractStridedSlice S5x160x159 ![0, 0, 0] V slices_S5x160x160_o0_0_0_S5x160x159⟩] concatenates_S5x160x1_S5x160x159_S5x160x160_d2

/-- One OR pass: `V` joined with its two opposite shifts `a V` and `b V`. -/
def pass (a b : Packed → Packed) (V : Packed) : Packed := ori (ori V (a V)) (b V)

/-- The 18 OR passes in the kernel's order: two for each of the nine structuring elements. -/
def chain (f : BitVec 32) (V : Packed) : Packed :=
  let V := pass (hUp f) (hDown f) (pass (dUp f) (dDown f) V)
  let V := pass (wUp f) (wDown f) (pass (dUp f) (dDown f) V)
  let V := pass (wUp f) (wDown f) (pass (hUp f) (hDown f) V)
  let V := pass (fun X => wUp f (hUp f X)) (fun X => wDown f (hDown f X)) (pass (dUp f) (dDown f) V)
  let V := pass (fun X => wDown f (hUp f X)) (fun X => wUp f (hDown f X)) (pass (dUp f) (dDown f) V)
  let V := pass (fun X => wUp f (dUp f X)) (fun X => wDown f (dDown f X)) (pass (hUp f) (hDown f) V)
  let V := pass (fun X => wDown f (dUp f X)) (fun X => wUp f (dDown f X)) (pass (hUp f) (hDown f) V)
  let V := pass (fun X => hUp f (dUp f X)) (fun X => hDown f (dDown f X)) (pass (wUp f) (wDown f) V)
  pass (fun X => hDown f (dUp f X)) (fun X => hUp f (dDown f X)) (pass (wUp f) (wDown f) V)

/-- A packed volume with every bit of `f` set in a word flipped. -/
def flip (f : BitVec 32) (V : Packed) : Packed := xori V (broadcast S5x160x160 f)

/-- One batch entry's morphology on packed words, `g` the entry's parity as a word: a chain with fill `-g`, the
    complement, a chain with fill `g - 1`, and a last flip by `g - 1`. -/
def morph (g : BitVec 32) (V : Packed) : Packed :=
  flip (Scalar.subi g 1#32) (chain (Scalar.subi g 1#32) (flip 4294967295#32 (chain (Scalar.subi 0#32 g) V)))

variable (F : FTy → Type) [FloatOps F]

/-- What the kernel stores over its packed scratch `V` at the morphology point of an entry of parity `g`, in the
    kernel's own payloads. -/
def morphStored (g : BitVec 32) (V : Packed) : Packed :=
  let f := Scalar.subi 0#32 g
  let e := Scalar.subi g 1#32
  let v65 := k0_pay5 (F := F) g V
  let v121 := k0_pay6 f v65
  let v161 := k0_pay7 f v121
  let v173 := k0_pay8 f v121
  let v225 := k0_pay11 f v161 v173 (k0_pay9 f) (k0_pay10 f v121)
  let v281 := k0_pay13 f v225 (k0_pay12 f v161 v173 (k0_pay9 f) (k0_pay10 f v121)) 1#32
  let v330 := k0_pay15 e v281
  let v331 := k0_pay16 e
  let v332 := k0_pay17 e v281
  let v382 := k0_pay18 e v330 v331 v332
  let v385 := k0_pay19 e v330 v331 v332
  let v387 := k0_pay20 e v330 v331 v332
  let v434 := k0_pay22 e v382 v385 v387
  let v437 := k0_pay23 e v382 v385 v387
  let v439 := k0_pay24 e v382 v385 v387
  let v486 := k0_pay26 e v434 v437 v439 k0_pay25
  k0_pay1 (k0_pay28 e v486 (k0_pay27 e v434 v437 v439 k0_pay25))

/-- The kernel's payloads at the morphology point, composed, are `morph` (through a shape cast of a shape to itself). -/
theorem morphStored_eq (g : BitVec 32) (V : Packed) :
    morphStored F g V = shapeCast S5x160x160 (morph g V) shapeCasts_S5x160x160_S5x160x160 := rfl

end Cert.KernelIdeal.Words
end
-- ==== Proof.Unpack.lean ====
/-
  The kernel's unpacking of one word plane into 32 depth slices of 0.0 / 1.0 floats, written once for all 32 bits.
-/
module

public import proofs.«01_k».proof.Proof.Gen.KernelIdeal.Skeleton

@[expose] public section

set_option maxRecDepth 16384

noncomputable section

namespace Cert.KernelIdeal.Words

open Cert.KernelIdeal Cert.KernelIdeal.Gen
open Idealize.ShloMosaic

variable (F : FTy → Type) [FloatOps F]

/-- One depth slice of the output: 1.0 where the word of the plane `W` has bit `j` set, 0.0 where not. -/
def slice (W : IVec S160x160 32) (j : Fin 32) : FVec F S160x160 .f32 :=
  select (cmpi .ne (andi W (broadcast S160x160 (1#32 <<< j.val))) (broadcast S160x160 0#32))
    (broadcast S160x160 (Scalar.ofBits .f32 0x3F800000#32)) (broadcast S160x160 (Scalar.ofBits .f32 0x00000000#32))

/-- The 32 depth slices of one word plane, stacked along depth. -/
def unpack (R : IVec S1x160x160 32) : FVec F S1x32x160x160 .f32 :=
  shapeCast S1x32x160x160 (concatenate S32x160x160 0
    (List.ofFn fun j : Fin 32 => (⟨S1x160x160, shapeCast S1x160x160 (slice F (shapeCast S160x160 R shapeCasts_S1x160x160_S160x160) j) shapeCasts_S160x160_S1x160x160⟩ :
      (s : Shape) × (s.Idx → F .f32))) concatenates_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S1x160x160_S32x160x160_d0)
    shapeCasts_S32x160x160_S1x32x160x160

/-- What the kernel stores into its output block at an unpacking point, in the kernel's own payloads, from the word
    plane `R` it loaded. -/
def unpackStored (R : IVec S1x160x160 32) : FVec F S1x32x160x160 .f32 :=
  let W := k0_pay29 (F := F) R
  k0_pay3 (k0_pay2 (k0_pay31 (F := F) R) (k0_pay32 (F := F) R) (k0_pay33 (F := F) R)
    (k0_pay36 (k0_pay34 (F := F) R) (Scalar.ofBits .f32 0x00000000#32) k0_pay35) (k0_pay37 W) (k0_pay38 W) (k0_pay39 W) (k0_pay40 W) (k0_pay41 W)
    (k0_pay43 (k0_pay42 W)) (k0_pay44 W) (k0_pay45 W) (k0_pay46 W) (k0_pay47 W)
    (k0_pay49 (k0_pay48 W) (Scalar.ofBits .f32 0x3F800000#32) (Scalar.ofBits .f32 0x00000000#32)) (k0_pay50 W) (k0_pay51 W) (k0_pay52 W) (k0_pay53 W) (k0_pay54 W)
    (k0_pay56 W k0_pay55) (k0_pay57 W) (k0_pay58 W) (k0_pay59 W) (k0_pay60 W)
    (k0_pay62 (k0_pay61 W) (Scalar.ofBits .f32 0x3F800000#32)) (k0_pay63 W) (k0_pay64 W) (k0_pay65 W) (k0_pay66 W) (k0_pay67 W)
    (k0_pay68 (k0_pay30 (F := F) R)))

/-- The kernel's payloads at an unpacking point, composed, are `unpack`. -/
theorem unpackStored_eq (R : IVec S1x160x160 32) : unpackStored F R = unpack F R := rfl

end Cert.KernelIdeal.Words
end
-- ==== Proof.Body.lean ====
/-
  What one grid point of the kernel does, at the level of values: the two input blocks stay as found, a packing point
  writes one row of the scratch, the last packing point of a batch then replaces the whole scratch by its close or open, and
  an unpacking point writes the output block from one row of the scratch.
-/
module

public import proofs.«01_k».proof.Proof.Gen.KernelIdeal.Frame
public import proofs.«01_k».proof.Proof.Words
public import proofs.«01_k».proof.Proof.Unpack
public import Idealize.ShloMosaic.Lib.Pipeline.TableIdle
public import Idealize.ShloMosaic.Lib.VecWindow

@[expose] public section

set_option maxRecDepth 16384

noncomputable section

namespace Cert.KernelIdeal.Body

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The batch's parity as the kernel computes it from its first grid coordinate: the floor remainder by 2. -/
def parity (i : grid0.Coords) : BitVec 32 :=
  let v1 : BitVec 32 := Scalar.select (Scalar.cmpi .eq 2#32 0#32) 1#32 2#32
  let v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32))
    (Scalar.addi v2 v1) v2

/-- The kernel's test that this is the last packing point of its batch. -/
def lastPack (i : grid0.Coords) : BitVec 1 :=
  Scalar.cmpi .ne (Scalar.extui (Scalar.cmpi .eq (BitVec.ofNat 32 (i 1).val) 4#32) : BitVec 32) 0#32

/-- The scratch after a packing point: the row the point names replaced by the packed words of its two input blocks. -/
def packed (i : grid0.Coords) (X2 X3 : S1x32x160x160.Idx → F .f32) (S : Packed) : Packed :=
  VecWindow.put S (k0_off1 i) S1x160x160.size (k0_pay4 (F := F) (parity i) X2 X3)

/-- At its batch's last packing point the second grid coordinate is 4. -/
theorem coord_last {i : grid0.Coords} (h : lastPack i = 1#1) : (i 1).val = 4 := by
  exact (by decide : ∀ k : Fin 10,
    Scalar.cmpi .ne (Scalar.extui (Scalar.cmpi .eq (BitVec.ofNat 32 k.val) 4#32) : BitVec 32) 0#32 = 1#1 → k.val = 4) (i 1) h

/-- At its batch's last packing point the row packed is row 0. -/
theorem off1_last {i : grid0.Coords} (h : lastPack i = 1#1) : k0_off1 i = ![0, 0, 0] := by
  unfold k0_off1
  rw [coord_last h]
  rfl

/-- At the last packing point the row's offsets are the literal zeros. -/
instance closedOff_last (i : grid0.Coords) [h : Fact (lastPack i = 1#1)] : ClosedOff (k0_off1 i) :=
  ⟨![0, 0, 0], off1_last h.out⟩

/-- A packing point that is not its batch's last. -/
theorem run_pack (c : Dev nD) (i : grid0.Coords) (M2 : Memref sig .tc .vmem S1x32x160x160 .f32) (h2 : M2.IsWhole)
    (M3 : Memref sig .tc .vmem S1x32x160x160 .f32) (h3 : M3.IsWhole)
    (M4 : Memref sig .tc .vmem S1x32x160x160 .f32) (h4 : M4.IsWhole)
    (X2 X3 : S1x32x160x160.Idx → Elt F .f32) (S : S5x160x160.Idx → Elt F .i32)
    (hc1 : k0_cond1 i = 1#1) (hc2 : ¬ lastPack i = 1#1)
    (hc3 : ¬ k0_cond3 i = 1#1) (𝒱 : Variants) (Q : PUnit → sProp 𝕄) :
    iprop(owns (c : Thread nD τ) M2 fullShare X2 ∗ owns (c : Thread nD τ) M3 fullShare X3
      ∗ owns (c : Thread nD τ) (Memref.whole cc0_scratch0) fullShare S
      ∗ (iprop(owns (c : Thread nD τ) M2 fullShare X2 ∗ owns (c : Thread nD τ) M3 fullShare X3
          ∗ owns (c : Thread nD τ) (Memref.whole cc0_scratch0) fullShare (packed i X2 X3 S)) -∗ Q ⟨⟩))
    ⊢ wp frame (wpE (defs₀ (F := F)) 𝒱 c none) Set.univ
        (cc0_morph_pool3d_fused i M2 h2 M3 h3 M4 h4 (Memref.whole cc0_scratch0) (Memref.isWhole_whole _)) Q := by
  repeat rw [owns_eq_rep]
  iintro ⟨H2, H3, Hs, Hk⟩
  rw [cc0_morph_pool3d_fused_eq_skeleton]
  unfold cc0_morph_pool3d_fused_skel
  sl_exec (disch := first | sl_exact hc1 | sl_exact hc2 | sl_exact hc3)
  sl_step
  iapply Hk
  isplitl [H2]; · iexact H2
  isplitl [H3]; · iexact H3
  rw [← owns_eq_rep]
  unfold owns
  iexists _
  isplitr; swap; · iexact Hs
  ipureintro
  refine (View.read_writes_rep_unit (Val := Elt F) (Memref.whole cc0_scratch0).view S (k0_off1_inb i hc1) _ rfl).trans ?_
  exact congrArg (VecWindow.put S (k0_off1 i) S1x160x160.size)
    (congrArg₂ (k0_pay4 (F := F) (parity i)) (View.readAt_rep_full M2.view X2 _) (View.readAt_rep_full M3.view X3 _))

/-- The last packing point of a batch: the row is packed, then the whole scratch goes through its close or open. -/
theorem run_last (c : Dev nD) (i : grid0.Coords) (M2 : Memref sig .tc .vmem S1x32x160x160 .f32) (h2 : M2.IsWhole)
    (M3 : Memref sig .tc .vmem S1x32x160x160 .f32) (h3 : M3.IsWhole)
    (M4 : Memref sig .tc .vmem S1x32x160x160 .f32) (h4 : M4.IsWhole)
    (X2 X3 : S1x32x160x160.Idx → Elt F .f32) (S : S5x160x160.Idx → Elt F .i32)
    (hc1 : k0_cond1 i = 1#1) (hc2 : lastPack i = 1#1)
    (hc3 : ¬ k0_cond3 i = 1#1) (𝒱 : Variants) (Q : PUnit → sProp 𝕄) :
    iprop(owns (c : Thread nD τ) M2 fullShare X2 ∗ owns (c : Thread nD τ) M3 fullShare X3
      ∗ owns (c : Thread nD τ) (Memref.whole cc0_scratch0) fullShare S
      ∗ (iprop(owns (c : Thread nD τ) M2 fullShare X2 ∗ owns (c : Thread nD τ) M3 fullShare X3
          ∗ owns (c : Thread nD τ) (Memref.whole cc0_scratch0) fullShare (morphStored F (parity i) (packed i X2 X3 S))) -∗ Q ⟨⟩))
    ⊢ wp frame (wpE (defs₀ (F := F)) 𝒱 c none) Set.univ
        (cc0_morph_pool3d_fused i M2 h2 M3 h3 M4 h4 (Memref.whole cc0_scratch0) (Memref.isWhole_whole _)) Q := by
  repeat rw [owns_eq_rep]
  haveI : Fact (lastPack i = 1#1) := ⟨hc2⟩
  iintro ⟨H2, H3, Hs, Hk⟩
  rw [cc0_morph_pool3d_fused_eq_skeleton]
  unfold cc0_morph_pool3d_fused_skel
  sl_exec (disch := first | sl_exact hc1 | sl_exact hc2 | sl_exact hc3)
  repeat (sl_step; sl_exec (disch := first | sl_exact hc1 | sl_exact hc2 | sl_exact hc3))
  sl_step
  iapply Hk
  isplitl [H2]; · iexact H2
  isplitl [H3]; · iexact H3
  rw [← owns_eq_rep]
  unfold owns
  iexists _
  isplitr; swap; · iexact Hs
  ipureintro
  refine (View.read_writes_full (Memref.whole cc0_scratch0).view _ _ _ _).trans ?_
  show morphStored F (parity i) (View.readAt (Elt F) (Memref.whole cc0_scratch0).view
    (Rect.unit (s := S5x160x160) ![0, 0, 0] S5x160x160.size inb_S5x160x160_S5x160x160_0_0_0).toLoadRect
    ((Memref.whole cc0_scratch0).view.writes (Elt F) ((Memref.whole cc0_scratch0).view.rep S)
      [⟨Rect.unit (s := S5x160x160) (k0_off1 i) S1x160x160.size (k0_off1_inb i hc1), run_last.sl.r c i M2 M3 X2 X3⟩])) = _
  refine congrArg (morphStored F (parity i)) ((View.readAt_full _ _ _).trans
    ((View.read_writes_rep_unit (Val := Elt F) (Memref.whole cc0_scratch0).view S (k0_off1_inb i hc1) _ rfl).trans ?_))
  exact congrArg (VecWindow.put S (k0_off1 i) S1x160x160.size)
    (congrArg₂ (k0_pay4 (F := F) (parity i)) (View.readAt_rep_full M2.view X2 _) (View.readAt_rep_full M3.view X3 _))

/-- An unpacking point. -/
theorem run_unpack (c : Dev nD) (i : grid0.Coords) (M2 : Memref sig .tc .vmem S1x32x160x160 .f32) (h2 : M2.IsWhole)
    (M3 : Memref sig .tc .vmem S1x32x160x160 .f32) (h3 : M3.IsWhole)
    (M4 : Memref sig .tc .vmem S1x32x160x160 .f32) (h4 : M4.IsWhole)
    (X4 : S1x32x160x160.Idx → Elt F .f32) (S : S5x160x160.Idx → Elt F .i32)
    (hc1 : ¬ k0_cond1 i = 1#1) (hc2 : ¬ lastPack i = 1#1)
    (hc3 : k0_cond3 i = 1#1) (𝒱 : Variants) (Q : PUnit → sProp 𝕄) :
    iprop(owns (c : Thread nD τ) M4 fullShare X4
      ∗ owns (c : Thread nD τ) (Memref.whole cc0_scratch0) fullShare S
      ∗ (iprop(owns (c : Thread nD τ) M4 fullShare (unpackStored F (VecWindow.window S (k0_off2 i) S1x160x160.size (k0_off2_inb i hc3)))
          ∗ owns (c : Thread nD τ) (Memref.whole cc0_scratch0) fullShare S) -∗ Q ⟨⟩))
    ⊢ wp frame (wpE (defs₀ (F := F)) 𝒱 c none) Set.univ
        (cc0_morph_pool3d_fused i M2 h2 M3 h3 M4 h4 (Memref.whole cc0_scratch0) (Memref.isWhole_whole _)) Q := by
  repeat rw [owns_eq_rep]
  iintro ⟨H4, Hs, Hk⟩
  rw [cc0_morph_pool3d_fused_eq_skeleton]
  unfold cc0_morph_pool3d_fused_skel
  sl_exec (disch := first | sl_exact hc1 | sl_exact hc2 | sl_exact hc3)
  repeat (sl_step; sl_exec (disch := first | sl_exact hc1 | sl_exact hc2 | sl_exact hc3))
  sl_step
  iapply Hk
  isplitr [Hs]; swap; · iexact Hs
  rw [← owns_eq_rep]
  unfold owns
  iexists _
  isplitr; swap; · iexact H4
  ipureintro
  refine (View.read_writes_full M4.view _ _ _ _).trans ?_
  show unpackStored F (View.readAt (Elt F) (Memref.whole cc0_scratch0).view (Rect.unit (s := S5x160x160) (k0_off2 i) S1x160x160.size (k0_off2_inb i hc3)).toLoadRect
    ((View.whole cc0_scratch0).rep S)) = _
  exact congrArg (unpackStored F) (View.readAt_rep_unit (Val := Elt F) (Memref.whole cc0_scratch0).view S (k0_off2_inb i hc3) rfl (k0_off2_inb i hc3))

end Cert.KernelIdeal.Body
end
-- ==== Proof.Trace.lean ====
/-
  What the kernel's scratch holds from point to point. The grid's points are numbered batch by batch, ten to a batch: the
  first five pack the batch's rows from the last to the first, the fifth also runs the morphology on the whole scratch, the
  last five read it. The invariant below says it without naming the scratch's contents before the batch.
-/
module

public import proofs.«01_k».proof.Proof.Body

@[expose] public section

set_option maxRecDepth 16384

noncomputable section

namespace Cert.KernelIdeal.Body

open Cert.KernelIdeal Cert.KernelIdeal.Gen Cert.KernelIdeal.Words
open Idealize.ShloMosaic Idealize.ShloMosaic.TcCoe Idealize.ShloMosaic.Tactic

variable {F : FTy → Type} [FloatOps F]

/-- Point `k` of batch `b`. -/
def pt (b : Fin 4) (k : Fin 10) : Fin cfg0.N := ⟨10 * b.val + k.val, by
  show _ < grid0.N
  rw [N_0]; omega⟩

theorem pt_lt (t : Fin cfg0.N) : t.val < 40 := lt_of_lt_of_eq t.isLt N_0

/-- Every point is one of those. -/
theorem pt_surj (t : Fin cfg0.N) : ∃ b k, t = pt b k := by
  have ht := pt_lt t
  exact ⟨⟨t.val / 10, by omega⟩, ⟨t.val % 10, by omega⟩, Fin.ext (by show t.val = 10 * (t.val / 10) + t.val % 10; omega)⟩

/-- The batch's parity as a word. -/
def par (b : Fin 4) : BitVec 32 := BitVec.ofNat 32 (b.val % 2)

/-- A packing point is one of a batch's first five. -/
theorem cond1_pt (b : Fin 4) (k : Fin 10) : k0_cond1 (grid0.coords (pt b k)) = 1#1 ↔ k.val < 5 := by
  revert b k; decide
/-- The morphology runs at a batch's fifth point. -/
theorem last_pt (b : Fin 4) (k : Fin 10) : lastPack (grid0.coords (pt b k)) = 1#1 ↔ k.val = 4 := by
  revert b k; decide
/-- An unpacking point is one of a batch's last five. -/
theorem cond3_pt (b : Fin 4) (k : Fin 10) : k0_cond3 (grid0.coords (pt b k)) = 1#1 ↔ 5 ≤ k.val := by
  revert b k; decide
/-- The parity the kernel computes at a point is its batch's. -/
theorem parity_pt (b : Fin 4) (k : Fin 10) : parity (grid0.coords (pt b k)) = par b := by
  revert b k; decide
/-- A packing point writes the row counted from the last. -/
theorem off1_pt (b : Fin 4) (k : Fin 10) (h : k.val < 5) : k0_off1 (grid0.coords (pt b k)) = ![4 - k.val, 0, 0] := by
  revert b k; decide
/-- An unpacking point reads its row. -/
theorem off2_pt (b : Fin 4) (k : Fin 10) (h : 5 ≤ k.val) : k0_off2 (grid0.coords (pt b k)) = ![k.val - 5, 0, 0] := by
  revert b k; decide
/-- The output window is idle at the packing points, -/
theorem idle_pt (b : Fin 4) (k : Fin 10) : idle0 2 (grid0.coords (pt b k)) = decide (k.val < 5) := by
  revert b k; decide
/-- and written back at the unpacking points. -/
theorem flush_pt (b : Fin 4) (k : Fin 10) : win0_2.flush (pt b k) = decide (5 ≤ k.val) := by
  revert b k; decide

variable (m : (ℓ : Loc nD τ sig) → Buf (Elt F) ℓ)

/-- The two input blocks of a point. -/
def blkIn (c : Dev nD) (t : Fin cfg0.N) : S1x32x160x160.Idx → F .f32 := iblk m c 0 t
@[inherit_doc blkIn] def blkAux (c : Dev nD) (t : Fin cfg0.N) : S1x32x160x160.Idx → F .f32 := iblk m c 1 t

/-- A position in one word row. -/
def rowIx (y : S5x160x160.Idx) : S1x160x160.Idx := fun
  | ⟨0, _⟩ => ⟨0, Nat.one_pos⟩
  | ⟨1, _⟩ => y 1
  | ⟨2, _⟩ => y 2

/-- The point of a batch that packs row `r`. -/
def rowPt (r : Fin 5) : Fin 10 := ⟨4 - r.val, by omega⟩

/-- The packed words of a whole batch: row `r` from the input blocks of the point that packs it. -/
def rows (c : Dev nD) (b : Fin 4) : Packed := fun y =>
  k0_pay4 (F := F) (par b) (blkIn m c (pt b (rowPt (y 0)))) (blkAux m c (pt b (rowPt (y 0)))) (rowIx y)

/-- A batch's words after its close or open. -/
def morphed (c : Dev nD) (b : Fin 4) : Packed := morphStored F (par b) (rows m c b)

/-- What the scratch holds before point `n`: while a batch is being packed, the rows packed so far; from the morphology on,
    the batch's close or open. -/
def Inv (c : Dev nD) (n : ℕ) (S : Packed) : Prop :=
  ∀ (b : Fin 4) (k : ℕ), k < 10 → n = 10 * b.val + k →
    (k ≤ 4 → ∀ y : S5x160x160.Idx, 5 - k ≤ (y 0).val → S y = rows m c b y) ∧ (5 ≤ k → S = morphed m c b)

/-- Before the first point nothing is asked of the scratch. -/
theorem inv_zero (c : Dev nD) (S : Packed) : Inv m c 0 S := by
  intro b k hk h
  refine ⟨fun _ y hy => ?_, fun h5 => ?_⟩
  · have : (y 0).val < 5 := (y 0).isLt
    omega
  · omega

/-- A packing point adds its row to those packed. -/
theorem packed_rows (c : Dev nD) (b : Fin 4) (k : Fin 10) (hk : k.val < 5) (S : Packed) (h : Inv m c (pt b k).val S)
    (y : S5x160x160.Idx) (hy : 4 - k.val ≤ (y 0).val) :
    packed (grid0.coords (pt b k)) (blkIn m c (pt b k)) (blkAux m c (pt b k)) S y = rows m c b y := by
  have hS := (h b k.val k.isLt rfl).1 (by omega)
  have y0 : (y 0).val < 5 := (y 0).isLt
  have y1 : (y 1).val < 160 := (y 1).isLt
  have y2 : (y 2).val < 160 := (y 2).isLt
  unfold packed VecWindow.put
  split
  · next hin =>
    have h0 := hin 0
    have e := off1_pt b k hk
    have h0' : 4 - k.val ≤ (y 0).val ∧ (y 0).val < 4 - k.val + 1 := by
      have := h0; rw [e] at this; exact this
    have hp : rowPt (y 0) = k := Fin.ext (by show 4 - (y 0).val = k.val; omega)
    unfold rows
    rw [hp, parity_pt]
    refine congrArg (k0_pay4 (F := F) (par b) (blkIn m c (pt b k)) (blkAux m c (pt b k))) (funext fun a => Fin.ext ?_)
    match a with
    | ⟨0, _⟩ => show (y 0).val - k0_off1 (grid0.coords (pt b k)) 0 = 0; rw [e]; show (y 0).val - (4 - k.val) = 0; omega
    | ⟨1, _⟩ => show (y 1).val - k0_off1 (grid0.coords (pt b k)) 1 = (y 1).val; rw [e]; rfl
    | ⟨2, _⟩ => show (y 2).val - k0_off1 (grid0.coords (pt b k)) 2 = (y 2).val; rw [e]; rfl
  · next hout =>
    refine hS y ?_
    by_contra hlt
    apply hout
    rw [off1_pt b k hk]
    intro a
    match a with
    | ⟨0, _⟩ => show 4 - k.val ≤ (y 0).val ∧ (y 0).val < 4 - k.val + 1; omega
    | ⟨1, _⟩ => show 0 ≤ (y 1).val ∧ (y 1).val < 0 + 160; omega
    | ⟨2, _⟩ => show 0 ≤ (y 2).val ∧ (y 2).val < 0 + 160; omega

/-- The invariant after a packing point that is not the batch's last. -/
theorem inv_pack (c : Dev nD) (b : Fin 4) (k : Fin 10) (hk : k.val < 4) (S : Packed) (h : Inv m c (pt b k).val S) :
    Inv m c ((pt b k).val + 1) (packed (grid0.coords (pt b k)) (blkIn m c (pt b k)) (blkAux m c (pt b k)) S) := by
  intro b' k' hk' e
  have e' : 10 * b.val + k.val + 1 = 10 * b'.val + k' := e
  obtain rfl : b' = b := Fin.ext (by omega)
  exact ⟨fun _ y hy => packed_rows m c b' k (by omega) S h y (by omega), fun _ => by omega⟩

/-- The invariant after the batch's last packing point. -/
theorem inv_last (c : Dev nD) (b : Fin 4) (k : Fin 10) (hk : k.val = 4) (S : Packed) (h : Inv m c (pt b k).val S) :
    Inv m c ((pt b k).val + 1) (morphStored F (parity (grid0.coords (pt b k)))
      (packed (grid0.coords (pt b k)) (blkIn m c (pt b k)) (blkAux m c (pt b k)) S)) := by
  intro b' k' hk' e
  have e' : 10 * b.val + k.val + 1 = 10 * b'.val + k' := e
  obtain rfl : b' = b := Fin.ext (by omega)
  refine ⟨fun _ => by omega, fun _ => ?_⟩
  rw [parity_pt]
  exact congrArg (morphStored F (par b')) (funext fun y => packed_rows m c b' k (by omega) S h y (by omega))

/-- At an unpacking point the scratch is the batch's close or open; -/
theorem inv_unpack (c : Dev nD) (b : Fin 4) (k : Fin 10) (hk : 5 ≤ k.val) (S : Packed) (h : Inv m c (pt b k).val S) :
    S = morphed m c b := (h b k.val k.isLt rfl).2 hk

/-- and so the invariant goes on. -/
theorem inv_next (c : Dev nD) (b : Fin 4) (k : Fin 10) (hk : 5 ≤ k.val) (S : Packed) (h : Inv m c (pt b k).val S) :
    Inv m c ((pt b k).val + 1) S := by
  intro b' k' hk' e
  have e' : 10 * b.val + k.val + 1 = 10 * b'.val + k' := e
  refine ⟨fun h4 y hy => ?_, fun h5 => ?_⟩
  · have : (y 0).val < 5 := (y 0).isLt
    omega
  · obtain rfl : b' = b := Fin.ext (by omega)
    exact inv_unpack m c b' k hk S h

/-- A word row as it is loaded from the scratch. -/
def rowOf (S : Packed) (r : Fin 5) : IVec S1x160x160 32 := fun y => S fun
  | ⟨0, _⟩ => r
  | ⟨1, _⟩ => y 1
  | ⟨2, _⟩ => y 2

/-- The row an unpacking step reads. -/
def stepRow (k : Fin 10) : Fin 5 := ⟨k.val - 5, by omega⟩

/-- The row an unpacking point loads. -/
theorem window_row (b : Fin 4) (k : Fin 10) (hk : 5 ≤ k.val) (S : Packed) (inb) :
    VecWindow.window S (k0_off2 (grid0.coords (pt b k))) S1x160x160.size inb = rowOf S (stepRow k) := by
  funext y
  have e := off2_pt b k hk
  have y0 : (y 0).val < 1 := (y 0).isLt
  refine congrArg S (funext fun a => Fin.ext ?_)
  match a with
  | ⟨0, _⟩ =>
    have ea : k0_off2 (grid0.coords (pt b k)) 0 = k.val - 5 := congrFun e 0
    show k0_off2 (grid0.coords (pt b k)) 0 + 1 * (y 0).val = k.val - 5
    omega
  | ⟨1, _⟩ =>
    have ea : k0_off2 (grid0.coords (pt b k)) 1 = 0 := congrFun e 1
    show k0_off2 (grid0.coords (pt b k)) 1 + 1 * (y 1).val = (y 1).val
    omega
  | ⟨2, _⟩ =>
    have ea : k0_off2 (grid0.coords (pt b k)) 2 = 0 := congrFun e 2
    show k0_off2 (grid0.coords (pt b k)) 2 + 1 * (y 2).val = (y 2).val
    omega

/-- The batch and the step a point's number names. -/
def batchOf (t : Fin cfg0.N) : Fin 4 := ⟨t.val / 10, by have := pt_lt t; omega⟩
@[inherit_doc batchOf] def stepOf (t : Fin cfg0.N) : Fin 10 := ⟨t.val % 10, by omega⟩

theorem batchOf_pt (b : Fin 4) (k : Fin 10) : batchOf (pt b k) = b :=
  Fin.ext (by show (10 * b.val + k.val) / 10 = b.val; omega)
theorem stepOf_pt (b : Fin 4) (k : Fin 10) : stepOf (pt b k) = k :=
  Fin.ext (by show (10 * b.val + k.val) % 10 = k.val; omega)

/-- What an unpacking point leaves in the output block: its row of its batch's close or open, unpacked. -/
def blkOut (c : Dev nD) (t : Fin cfg0.N) : S1x32x160x160.Idx → F .f32 :=
  unpack F (rowOf (morphed m c (batchOf t)) (stepRow (stepOf t)))

theorem blkOut_pt (c : Dev nD) (b : Fin 4) (k : Fin 10) :
    blkOut m c (pt b k) = unpack F (rowOf (morphed m c b) (stepRow k)) := by
  unfold blkOut
  rw [batchOf_pt, stepOf_pt]

end Cert.KernelIdeal.Body
end
-- ==== Proof.Run.lean ====
/-
  The kernel's run: the proof data of its pipeline (the scratch tracked from point to point), the body obligation, and what
  every final state holds — every counter zero, the arguments as launched, the result from the pipeline's output array.
-/
module

public import proofs.«01_k».proof.Proof.Trace

@[expose] public section

set_option maxRecDepth 16384

noncomputable section

namespace Cert.KernelIdeal.Body

open Cert.KernelIdeal Cert.KernelIdeal.Gen Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `n`: whole, at contents the invariant holds of. -/
def scratchAt (c : Dev nD) (n : ℕ) : sProp 𝕄 :=
  iprop(∃ S, ⌜Inv m c n S⌝ ∗ owns (c : Thread nD τ) (Memref.whole cc0_scratch0) fullShare S)

/-- The pipeline's proof data: the arrays as the region finds them, the inputs' blocks left in place, the output block as
    `blkOut` names it, the tracked scratch. -/
def dats (_ : Fin 1) (c : Dev nD) : Dat τ (Elt F) Unit ℕ (UR sig nD τ) ℕ cfg0 c where
  A w := V m c (Pipeline.arrRef spec0 w)
  after w t := match w with
    | ⟨0, _⟩ => blkIn m c t
    | ⟨1, _⟩ => blkAux m c t
    | ⟨2, _⟩ => blkOut m c t
  Φ n := iprop(scratchAt m c n.val ∗ ∃ r, prngReg c r)
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = blkIn m c t := by dsimp only [dats]
theorem after_aux (c : Dev nD) (t : Fin cfg0.N) : (dats m 0 c).after 1 t = blkAux m c t := by dsimp only [dats]
theorem after_out (c : Dev nD) (t : Fin cfg0.N) : (dats m 0 c).after 2 t = blkOut m c t := by dsimp only [dats]

theorem before_in (c : Dev nD) (t : Fin cfg0.N) (d) : (dats m 0 c).before 0 t d = blkIn m c t :=
  before0_0_of m (dats m 0 c) (A_eq m c 0) (after_in m c) t d
theorem before_aux (c : Dev nD) (t : Fin cfg0.N) (d) : (dats m 0 c).before 1 t d = blkAux m c t :=
  before0_1_of m (dats m 0 c) (A_eq m c 1) (after_aux m c) t d

theorem phi_eq (c : Dev nD) (n : Fin (cfg0.N + 1)) :
    (dats m 0 c).Φ n = iprop(scratchAt m c n.val ∗ ∃ r, prngReg c r) := by dsimp only [dats]

/-- The body at a point is the printed kernel on the point's staging buffers. -/
theorem row (t : Fin cfg0.N) : defs₀ (F := F) .tc cfg0.body (cfg0.bodyArgs t (cfg0.slots t)) = bodyAt0 t := by
  unfold defs₀; rw [Defs.onTc_tc]

/-- THE BODY OBLIGATION, at a packing point before the batch's last. -/
theorem body_pack (c : Dev nD) (b : Fin 4) (k : Fin 10) (hk : k.val < 4) (Q : PUnit → sProp 𝕄) :
    iprop(scratchAt m c (pt b k).val
      ∗ owns (c : Thread nD τ) (st0_0 (pt b k)) fullShare (blkIn m c (pt b k)) ∗ owns (c : Thread nD τ) (st0_1 (pt b k)) fullShare (blkAux m c (pt b k))
      ∗ (iprop(scratchAt m c ((pt b k).val + 1)
          ∗ owns (c : Thread nD τ) (st0_0 (pt b k)) fullShare (blkIn m c (pt b k)) ∗ owns (c : Thread nD τ) (st0_1 (pt b k)) fullShare (blkAux m c (pt b k))) -∗ Q ⟨⟩))
    ⊢ wp frame (wpE (defs₀ (F := F)) Variants.none c none) Set.univ (bodyAt0 (pt b k)) Q := by
  unfold scratchAt
  iintro ⟨⟨%S, %hS, HS⟩, H0, H1, Hk⟩
  iapply (run_pack c (grid0.coords (pt b k)) _ _ _ _ _ _ (blkIn m c (pt b k)) (blkAux m c (pt b k)) S
    ((cond1_pt b k).2 (by omega)) (fun h => by have := (last_pt b k).1 h; omega) (fun h => by have := (cond3_pt b k).1 h; omega) Variants.none Q)
  isplitl [H0]; · iexact H0
  isplitl [H1]; · iexact H1
  isplitl [HS]; · iexact HS
  iintro ⟨H0, H1, HS⟩
  iapply Hk
  isplitl [HS]
  · iexists _; isplitr; · ipureintro; exact inv_pack m c b k hk S hS
    iexact HS
  isplitl [H0]; · iexact H0
  iexact H1

/-- The same at the batch's last packing point. -/
theorem body_last (c : Dev nD) (b : Fin 4) (k : Fin 10) (hk : k.val = 4) (Q : PUnit → sProp 𝕄) :
    iprop(scratchAt m c (pt b k).val
      ∗ owns (c : Thread nD τ) (st0_0 (pt b k)) fullShare (blkIn m c (pt b k)) ∗ owns (c : Thread nD τ) (st0_1 (pt b k)) fullShare (blkAux m c (pt b k))
      ∗ (iprop(scratchAt m c ((pt b k).val + 1)
          ∗ owns (c : Thread nD τ) (st0_0 (pt b k)) fullShare (blkIn m c (pt b k)) ∗ owns (c : Thread nD τ) (st0_1 (pt b k)) fullShare (blkAux m c (pt b k))) -∗ Q ⟨⟩))
    ⊢ wp frame (wpE (defs₀ (F := F)) Variants.none c none) Set.univ (bodyAt0 (pt b k)) Q := by
  unfold scratchAt
  iintro ⟨⟨%S, %hS, HS⟩, H0, H1, Hk⟩
  iapply (run_last c (grid0.coords (pt b k)) _ _ _ _ _ _ (blkIn m c (pt b k)) (blkAux m c (pt b k)) S
    ((cond1_pt b k).2 (by omega)) ((last_pt b k).2 hk) (fun h => by have := (cond3_pt b k).1 h; omega) Variants.none Q)
  isplitl [H0]; · iexact H0
  isplitl [H1]; · iexact H1
  isplitl [HS]; · iexact HS
  iintro ⟨H0, H1, HS⟩
  iapply Hk
  isplitl [HS]
  · iexists _; isplitr; · ipureintro; exact inv_last m c b k hk S hS
    iexact HS
  isplitl [H0]; · iexact H0
  iexact H1

/-- The same at an unpacking point. -/
theorem body_unpack (c : Dev nD) (b : Fin 4) (k : Fin 10) (hk : 5 ≤ k.val) (X : S1x32x160x160.Idx → F .f32) (Q : PUnit → sProp 𝕄) :
    iprop(scratchAt m c (pt b k).val ∗ owns (c : Thread nD τ) (st0_2 (pt b k)) fullShare X
      ∗ (iprop(scratchAt m c ((pt b k).val + 1) ∗ owns (c : Thread nD τ) (st0_2 (pt b k)) fullShare (blkOut m c (pt b k))) -∗ Q ⟨⟩))
    ⊢ wp frame (wpE (defs₀ (F := F)) Variants.none c none) Set.univ (bodyAt0 (pt b k)) Q := by
  unfold scratchAt
  iintro ⟨⟨%S, %hS, HS⟩, H2, Hk⟩
  have hc3 := (cond3_pt b k).2 hk
  have hout : unpackStored F (VecWindow.window S (k0_off2 (grid0.coords (pt b k))) S1x160x160.size (k0_off2_inb _ hc3)) = blkOut m c (pt b k) := by
    rw [window_row b k hk S _, unpackStored_eq, blkOut_pt, inv_unpack m c b k hk S hS]
  iapply (run_unpack c (grid0.coords (pt b k)) _ _ _ _ _ _ X S
    (fun h => by have := (cond1_pt b k).1 h; omega) (fun h => by have := (last_pt b k).1 h; omega) hc3 Variants.none Q)
  isplitl [H2]; · iexact H2
  isplitl [HS]; · iexact HS
  rw [hout]
  iintro ⟨H2, HS⟩
  iapply Hk
  isplitl [HS]
  · iexists _; isplitr; · ipureintro; exact inv_next m c b k hk S hS
    iexact HS
  iexact H2

/-- The library's body obligation at every point. -/
theorem body_obligation (c : Dev nD) : BodyObligation (dats m 0 c) (defs₀ (F := F)) Variants.none () Set.univ := fun t => by
  obtain ⟨b, k, rfl⟩ := pt_surj t
  rw [bigSep_W0, bigSep_W0, row, phi_eq, phi_eq]
  unfold Dat.owesAt Pipeline.owesWithin
  rw [show (dats m 0 c).owed (pt b k).castSucc = 0 from rfl, show (dats m 0 c).owed (pt b k).succ = 0 from rfl]
  simp only [before_in, before_aux, after_in, after_aux, after_out]
  iintro ⟨⟨HS, HR⟩, ⟨%W, %hW, HO⟩, ⟨%d0, H0⟩, ⟨%d1, H1⟩, ⟨%d2, H2⟩⟩
  by_cases hk : k.val < 5
  · have hi : idle0 2 (grid0.coords (pt b k)) = true := (idle_pt b k).trans (decide_eq_true hk)
    have hf : (win0 2).flush (pt b k) = false := (flush_pt b k).trans (decide_eq_false (by omega))
    rw [hi, hf]
    dsimp only
    by_cases h4 : k.val = 4
    · iapply (body_last m c b k h4)
      isplitl [HS]; · iexact HS
      isplitl [H0]; · iexact H0
      isplitl [H1]; · iexact H1
      iintro ⟨HS, H0, H1⟩
      isplitl [HS HR]
      · isplitl [HS]; · iexact HS
        iexact HR
      isplitl [HO]
      · iexists W; isplitr; · ipureintro; exact fun _ _ => Or.inl trivial
        iexact HO
      isplitl [H0]; · iexact H0
      isplitl [H1]; · iexact H1
      iexists d2; iexact H2
    · iapply (body_pack m c b k (by omega))
      isplitl [HS]; · iexact HS
      isplitl [H0]; · iexact H0
      isplitl [H1]; · iexact H1
      iintro ⟨HS, H0, H1⟩
      isplitl [HS HR]
      · isplitl [HS]; · iexact HS
        iexact HR
      isplitl [HO]
      · iexists W; isplitr; · ipureintro; exact fun _ _ => Or.inl trivial
        iexact HO
      isplitl [H0]; · iexact H0
      isplitl [H1]; · iexact H1
      iexists d2; iexact H2
  · have hi : idle0 2 (grid0.coords (pt b k)) = false := (idle_pt b k).trans (decide_eq_false hk)
    rw [hi]
    dsimp only
    iapply (body_unpack m c b k (by omega) _)
    isplitl [HS]; · iexact HS
    isplitl [H2]; · iexact H2
    iintro ⟨HS, H2⟩
    isplitl [HS HR]
    · isplitl [HS]; · iexact HS
      iexact HR
    isplitl [HO]
    · iexists W; isplitr; · ipureintro; exact fun _ _ => Or.inl trivial
      iexact HO
    isplitl [H0]; · iexact H0
    isplitl [H1]; · iexact H1
    iexact H2

/-- The invariant's scratch from the launch's: nothing is asked of it before the first point. -/
theorem phi_in (c : Dev nD) : (Pipeline.ΦA spec0 c : sProp 𝕄) ⊢ (dats m 0 c).Φ 0 := by
  rw [phi_eq]
  unfold Pipeline.ΦA scratchAt
  rw [scopedRest0_eq]
  simp only [owns_whole]
  iintro ⟨⟨%f, H⟩, HR⟩
  isplitl [H]
  · iexists f; isplitr; · ipureintro; exact inv_zero m c f
    iexact H
  iexact HR

/-- And back after the last. -/
theorem phi_out (c : Dev nD) : (dats m 0 c).Φ (Fin.last cfg0.N) ⊢ (Pipeline.ΦA spec0 c : sProp 𝕄) := by
  rw [phi_eq]
  unfold Pipeline.ΦA scratchAt
  rw [scopedRest0_eq]
  simp only [owns_whole]
  iintro ⟨⟨%f, %hf, H⟩, HR⟩
  isplitl [H]
  · iexists f
    iexact H
  iexact HR

/-- THE RUN: every fair execution ends, with the arrays as the proof data compute them, everything else as the host
    operations leave it, and every counter zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main (fun c => (body_obligation m c).loose)
    (fun c w => by fin_cases w <;> rfl) (fun _ _ => rfl) (V0 m) [hostOps1] sfx_sub sfx_fresh sfx_keeps (hmain m Variants.none) (A_eq m)
    (phi_in m) (phi_out m) _ (fun _ h => h)

/-- Every final state has the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩, h.2⟩)
    (run_main m ρ)

end Cert.KernelIdeal.Body
end
-- ==== Proof.Frames.lean ====
/-
  The frame claims of the kernel: as printed, read at the machine's floats, and read at the extended reals. The two printed
  modules hold one program (the second is the first with no operation rewritten), and the run is proved for every reading of
  the floats, so the first claim is the second's theorem at the machine's floats.
-/
module

public import proofs.«01_k».proof.Proof.Run
public import proofs.«01_k».proof.Proof.Gen.Kernel.Frame
public import proofs.«01_k».proof.Defs

@[expose] public section

set_option maxRecDepth 65536

noncomputable section

namespace Cert.Frames
open Idealize.ShloMosaic

variable {F : FTy → Type} [FloatOps F]

/-- The kernel bodies of the two modules are one table. -/
theorem bodies_eq : Cert.Kernel.defs₀ (F := F) = Cert.KernelIdeal.defs₀ (F := F) := by
  refine congrArg Defs.onTc (funext fun l => ?_)
  match l with
  | 0 => exact funext fun a => match a with | (t, s) => rfl

/-- And so are the whole body tables. -/
theorem defs_eq : Cert.Kernel.defs (F := F) = Cert.KernelIdeal.defs (F := F) :=
  congrArg (Pipeline.defs (Cert.KernelIdeal.pcfgs (F := F))) bodies_eq

/-- The idealized kernel runs, leaves its arguments and ends with every counter at zero. -/
theorem kernelIdeal : @Cert.quiescent_KernelIdeal Cert.KernelIdeal.Gen.facts := fun m g _ => Cert.KernelIdeal.Body.quiescent m g

/-- The kernel as printed runs, leaves its arguments and ends with every counter at zero. -/
theorem kernel : @Cert.quiescent_Kernel Cert.Kernel.Gen.facts := fun m g _ => by
  have h := Cert.KernelIdeal.Body.quiescent (F := Bits) m g
  rw [← defs_eq] at h
  exact h

end Cert.Frames
end
-- ==== Proof.Morph.lean ====
/-
  Binary morphology on a 160 × 160 × 160 volume, as Booleans on integer positions: a structuring element's dilation with a
  constant outside the volume, the OR passes it splits into, and the chain of the nine planar elements.
-/
module

public import Mathlib.Tactic.Ring
public import Mathlib.Algebra.Group.Prod
public import Mathlib.Data.Int.Order.Basic

@[expose] public section

namespace Cert.Morph

/-- A voxel's position: depth, row, column. -/
abbrev Pos : Type := ℤ × ℤ × ℤ

/-- The position lies in the volume. -/
def inside (p : Pos) : Prop := (0 ≤ p.1 ∧ p.1 < 160) ∧ (0 ≤ p.2.1 ∧ p.2.1 < 160) ∧ (0 ≤ p.2.2 ∧ p.2.2 < 160)

instance : DecidablePred inside := fun p => by unfold inside; infer_instance

/-- A volume continued outside by the constant `f`. -/
def ext (f : Bool) (P : Pos → Bool) (p : Pos) : Bool := if inside p then P p else f

/-- One OR pass: a voxel joined with its two neighbours at `p + u` and `p - u`. -/
def line (f : Bool) (u : Pos) (P : Pos → Bool) (p : Pos) : Bool := (ext f P p || ext f P (p + u)) || ext f P (p + -u)

/-- Dilation by the nine offsets `a u + b v`, `a` and `b` in -1, 0, 1, the outside counting as `f`. -/
def square (f : Bool) (u v : Pos) (P : Pos → Bool) (p : Pos) : Bool :=
  ext f P (p + -u + -v) || ext f P (p + -u) || ext f P (p + -u + v)
    || ext f P (p + -v) || ext f P p || ext f P (p + v)
    || ext f P (p + u + -v) || ext f P (p + u) || ext f P (p + u + v)

/-- Two volumes agree inside. -/
def Agree (P Q : Pos → Bool) : Prop := ∀ p, inside p → P p = Q p

theorem ext_of_inside {f : Bool} {P : Pos → Bool} {p : Pos} (h : inside p) : ext f P p = P p := if_pos h
theorem ext_of_outside {f : Bool} {P : Pos → Bool} {p : Pos} (h : ¬ inside p) : ext f P p = f := if_neg h

theorem Agree.ext {P Q : Pos → Bool} (h : Agree P Q) (f : Bool) : Morph.ext f P = Morph.ext f Q := by
  funext p
  unfold Morph.ext
  split
  · exact h p ‹_›
  · rfl

/-- Dilation reads its volume inside only. -/
theorem Agree.square {P Q : Pos → Bool} (h : Agree P Q) (f : Bool) (u v : Pos) : Morph.square f u v P = Morph.square f u v Q := by
  funext p
  unfold Morph.square
  rw [h.ext f]

/-- Steps `u` and `v` that move different coordinates: leaving the volume along one, the other does not lead back. -/
def Apart (u v : Pos) : Prop := (u.1 = 0 ∨ v.1 = 0) ∧ (u.2.1 = 0 ∨ v.2.1 = 0) ∧ (u.2.2 = 0 ∨ v.2.2 = 0)

theorem Apart.outside {u v p : Pos} (h : Apart u v) (hp : inside p) (hu : ¬ inside (p + u)) : ¬ inside (p + u + v) := by
  obtain ⟨p1, p2, p3⟩ := p
  obtain ⟨u1, u2, u3⟩ := u
  obtain ⟨v1, v2, v3⟩ := v
  simp only [inside, Apart, Prod.mk_add_mk] at *
  omega

theorem Apart.symm {u v : Pos} (h : Apart u v) : Apart v u := ⟨h.1.symm, h.2.1.symm, h.2.2.symm⟩
theorem Apart.neg_left {u v : Pos} (h : Apart u v) : Apart (-u) v := by
  obtain ⟨u1, u2, u3⟩ := u
  obtain ⟨v1, v2, v3⟩ := v
  simp only [Apart, Prod.neg_mk] at *
  omega
theorem Apart.neg_right {u v : Pos} (h : Apart u v) : Apart u (-v) := h.symm.neg_left.symm

/-- One pass along `u`, seen from a place reached by a step along `v`. -/
theorem ext_line {f : Bool} {u v p : Pos} (h : Apart v u) (hp : inside p) (P : Pos → Bool) :
    ext f (line f u P) (p + v) = ((ext f P (p + v) || ext f P (p + v + u)) || ext f P (p + v + -u)) := by
  by_cases hv : inside (p + v)
  · rw [ext_of_inside hv]
    rfl
  · rw [ext_of_outside hv, ext_of_outside hv, ext_of_outside (h.outside hp hv), ext_of_outside (h.neg_right.outside hp hv)]
    simp

/-- A square dilation is two passes, one along each of its directions. -/
theorem square_eq {u v : Pos} (h : Apart u v) (f : Bool) (P : Pos → Bool) : Agree (line f v (line f u P)) (square f u v P) := by
  intro p hp
  have e0 : p + (0 : Pos) = p := add_zero p
  have h0 : Apart (0 : Pos) u := ⟨Or.inl rfl, Or.inl rfl, Or.inl rfl⟩
  have a0 := ext_line (f := f) h0 hp P
  rw [e0] at a0
  have hl : line f v (line f u P) p = ((ext f (line f u P) p || ext f (line f u P) (p + v)) || ext f (line f u P) (p + -v)) := rfl
  rw [hl, a0, ext_line h.symm hp, ext_line h.symm.neg_left hp]
  unfold square
  rw [add_right_comm p v u, add_right_comm p v (-u), add_right_comm p (-v) u, add_right_comm p (-v) (-u)]
  generalize ext f P p = b0
  generalize ext f P (p + u) = b1
  generalize ext f P (p + -u) = b2
  generalize ext f P (p + v) = b3
  generalize ext f P (p + -v) = b4
  generalize ext f P (p + u + v) = b5
  generalize ext f P (p + u + -v) = b6
  generalize ext f P (p + -u + v) = b7
  generalize ext f P (p + -u + -v) = b8
  revert b0 b1 b2 b3 b4 b5 b6 b7 b8
  decide

/-- A square dilation is the same with its directions exchanged. -/
theorem square_comm (f : Bool) (u v : Pos) (P : Pos → Bool) : square f u v P = square f v u P := by
  funext p
  unfold square
  rw [add_right_comm p v u, add_right_comm p v (-u), add_right_comm p (-v) u, add_right_comm p (-v) (-u)]
  generalize ext f P p = b0
  generalize ext f P (p + u) = b1
  generalize ext f P (p + -u) = b2
  generalize ext f P (p + v) = b3
  generalize ext f P (p + -v) = b4
  generalize ext f P (p + u + v) = b5
  generalize ext f P (p + u + -v) = b6
  generalize ext f P (p + -u + v) = b7
  generalize ext f P (p + -u + -v) = b8
  revert b0 b1 b2 b3 b4 b5 b6 b7 b8
  decide

/-- The nine planar structuring elements, each by the two directions that span it. -/
def dirs : Fin 9 → Pos × Pos
  | 0 => ((1, 0, 0), (0, 1, 0))
  | 1 => ((1, 0, 0), (0, 0, 1))
  | 2 => ((0, 1, 0), (0, 0, 1))
  | 3 => ((1, 0, 0), (0, 1, 1))
  | 4 => ((1, 0, 0), (0, 1, -1))
  | 5 => ((1, 0, 1), (0, 1, 0))
  | 6 => ((1, 0, -1), (0, 1, 0))
  | 7 => ((1, 1, 0), (0, 0, 1))
  | 8 => ((1, -1, 0), (0, 0, 1))

theorem dirs_apart (n : Fin 9) : Apart (dirs n).1 (dirs n).2 := by
  revert n
  unfold Apart
  decide

/-- Dilation by the `n`-th element. -/
def dil (f : Bool) (n : Fin 9) : (Pos → Bool) → Pos → Bool := square f (dirs n).1 (dirs n).2

/-- The nine dilations one after the other. -/
def dilAll (f : Bool) (P : Pos → Bool) : Pos → Bool :=
  dil f 8 (dil f 7 (dil f 6 (dil f 5 (dil f 4 (dil f 3 (dil f 2 (dil f 1 (dil f 0 P))))))))

/-- The complement. -/
def compl (P : Pos → Bool) (p : Pos) : Bool := !P p

/-- The nine erosions one after the other, the outside counting as false: the complement's dilations with the outside
    counting as true. -/
def eroAll (P : Pos → Bool) : Pos → Bool := compl (dilAll true (compl P))

/-- The close: dilations, then erosions; and the open: erosions, then dilations. -/
def close (P : Pos → Bool) : Pos → Bool := eroAll (dilAll false P)
@[inherit_doc close] def openUp (P : Pos → Bool) : Pos → Bool := dilAll false (eroAll P)

theorem Agree.dil {P Q : Pos → Bool} (h : Agree P Q) (f : Bool) (n : Fin 9) : Morph.dil f n P = Morph.dil f n Q := h.square f _ _

theorem Agree.dilAll {P Q : Pos → Bool} (h : Agree P Q) (f : Bool) : Morph.dilAll f P = Morph.dilAll f Q := by
  unfold Morph.dilAll
  rw [h.dil f 0]

theorem Agree.compl {P Q : Pos → Bool} (h : Agree P Q) : Agree (Morph.compl P) (Morph.compl Q) := fun p hp => by
  unfold Morph.compl
  rw [h p hp]

theorem compl_compl (P : Pos → Bool) : compl (compl P) = P := funext fun p => Bool.not_not (P p)

end Cert.Morph
-- ==== Proof.Planes.lean ====
/-
  The packed words as a Boolean volume (`vol`), and what the kernel's operations on words do to it: each shift reads the
  volume one voxel away, with the fill outside; a pass is the OR of a line of three; the chain of 18 passes is the nine
  dilations (`vol_chain`); and one batch entry's morphology, by its parity (`vol_morph_even`, `vol_morph_odd`).
-/
module

public import proofs.«01_k».proof.Proof.Words
public import proofs.«01_k».proof.Proof.Morph
public import Idealize.ShloMosaic.Lib.PointwiseCore

@[expose] public section

set_option maxRecDepth 16384

noncomputable section

namespace Cert.KernelIdeal.Words

open Cert.KernelIdeal Cert.KernelIdeal.Gen
open Idealize.ShloMosaic
open Cert.Morph (Pos inside ext line square Agree Apart)

/-- The word at plane `r`, row `h`, column `w`; zero beyond the array. -/
def wordAt (V : Packed) (r h w : ℕ) : BitVec 32 :=
  if hb : r < 5 ∧ h < 160 ∧ w < 160 then V (ix3 ⟨r, hb.1⟩ ⟨h, hb.2.1⟩ ⟨w, hb.2.2⟩) else 0#32

/-- The volume a packed array holds: depth `d` is bit `d % 32` of plane `d / 32`. -/
def vol (V : Packed) (p : Pos) : Bool := (wordAt V (p.1.toNat / 32) p.2.1.toNat p.2.2.toNat).getLsbD (p.1.toNat % 32)

theorem wordAt_of {V : Packed} {r h w : ℕ} (hr : r < 5) (hh : h < 160) (hw : w < 160) :
    wordAt V r h w = V (ix3 ⟨r, hr⟩ ⟨h, hh⟩ ⟨w, hw⟩) := dif_pos ⟨hr, hh, hw⟩

theorem shl31 (a : BitVec 32) : IntOp.shli .vector a 31#32 = a <<< 31 := rfl
theorem shl1 (a : BitVec 32) : IntOp.shli .vector a 1#32 = a <<< 1 := rfl
theorem shr31 (a : BitVec 32) : IntOp.shrui .vector a 31#32 = a >>> 31 := rfl
theorem shr1 (a : BitVec 32) : IntOp.shrui .vector a 1#32 = a >>> 1 := rfl

section Shifts

variable (f : BitVec 32) (V : Packed) {r h w : ℕ} (hr : r < 5) (hh : h < 160) (hw : w < 160)
include hr hh hw

theorem wordAt_hUp : wordAt (hUp f V) r h w = if h + 1 < 160 then wordAt V r (h + 1) w else f := by
  rw [wordAt_of hr hh hw]
  pointwise [hUp]
  by_cases hc : h < 159
  · rw [dif_pos hc, if_pos (by omega), wordAt_of hr (by omega) hw]
    exact congrArg V (by simp only [Nat.add_comm])
  · rw [dif_neg hc, if_neg (by omega)]

theorem wordAt_hDown : wordAt (hDown f V) r h w = if 1 ≤ h then wordAt V r (h - 1) w else f := by
  rw [wordAt_of hr hh hw]
  pointwise [hDown]
  by_cases hc : h < 1
  · rw [dif_pos hc, if_neg (by omega)]
  · rw [dif_neg hc, if_pos (show 1 ≤ h by omega)]
    exact (wordAt_of (V := V) hr (show h - 1 < 160 by omega) hw).symm

theorem wordAt_wUp : wordAt (wUp f V) r h w = if w + 1 < 160 then wordAt V r h (w + 1) else f := by
  rw [wordAt_of hr hh hw]
  pointwise [wUp]
  by_cases hc : w < 159
  · rw [dif_pos hc, if_pos (by omega), wordAt_of hr hh (by omega)]
    exact congrArg V (by simp only [Nat.add_comm])
  · rw [dif_neg hc, if_neg (by omega)]

theorem wordAt_wDown : wordAt (wDown f V) r h w = if 1 ≤ w then wordAt V r h (w - 1) else f := by
  rw [wordAt_of hr hh hw]
  pointwise [wDown]
  by_cases hc : w < 1
  · rw [dif_pos hc, if_neg (by omega)]
  · rw [dif_neg hc, if_pos (show 1 ≤ w by omega)]
    exact (wordAt_of (V := V) hr hh (show w - 1 < 160 by omega)).symm

theorem wordAt_dUp : wordAt (dUp f V) r h w = wordAt V r h w >>> 1 ||| (if r + 1 < 5 then wordAt V (r + 1) h w else f) <<< 31 := by
  rw [wordAt_of hr hh hw, wordAt_of hr hh hw]
  pointwise [dUp]
  rw [shr1, shl31]
  by_cases hc : r < 4
  · rw [dif_pos hc, if_pos (by omega), wordAt_of (by omega) hh hw]
    exact congrArg (fun e => _ ||| V e <<< 31) (by simp only [Nat.add_comm])
  · rw [dif_neg hc, if_neg (by omega)]
    rfl

theorem wordAt_dDown : wordAt (dDown f V) r h w = wordAt V r h w <<< 1 ||| (if 1 ≤ r then wordAt V (r - 1) h w else f) >>> 31 := by
  rw [wordAt_of hr hh hw, wordAt_of hr hh hw]
  pointwise [dDown]
  rw [shl1, shr31]
  by_cases hc : r < 1
  · rw [dif_pos hc, if_neg (by omega)]
    rfl
  · rw [dif_neg hc, if_pos (show 1 ≤ r by omega)]
    rw [wordAt_of (V := V) (show r - 1 < 5 by omega) hh hw]
    rfl

end Shifts

/-- Every bit of the word `f` is `b`. -/
def Const (f : BitVec 32) (b : Bool) : Prop := ∀ i, i < 32 → f.getLsbD i = b

theorem const_zero : Const 0#32 false := fun i _ => BitVec.getLsbD_zero
theorem const_ones : Const 4294967295#32 true := by unfold Const; decide

/-- An operation on packed arrays that reads the volume at `p + u`, the outside as `f`. -/
def IsShift (f : Bool) (u : Pos) (a : Packed → Packed) : Prop := ∀ V p, inside p → vol (a V) p = ext f (vol V) (p + u)

theorem IsShift.comp {f : Bool} {u v : Pos} {a b : Packed → Packed} (ha : IsShift f u a) (hb : IsShift f v b) (huv : Apart u v) :
    IsShift f (u + v) (fun X => a (b X)) := fun V p hp => by
  rw [ha _ p hp, ← add_assoc]
  by_cases hu : inside (p + u)
  · rw [Morph.ext_of_inside hu, hb V _ hu]
  · rw [Morph.ext_of_outside hu, Morph.ext_of_outside (huv.outside hp hu)]

section IsShift

variable {f : BitVec 32} {b : Bool} (hf : Const f b)
include hf

theorem isShift_hUp : IsShift b (0, 1, 0) (hUp f) := fun V ⟨d, h, w⟩ hp => by
  simp only [inside] at hp
  by_cases hc : h + 1 < 160
  · rw [Morph.ext_of_inside (by simp only [inside, Prod.mk_add_mk]; omega)]
    simp only [vol, Prod.mk_add_mk]
    rw [wordAt_hUp f V (by omega) (by omega) (by omega), if_pos (by omega)]
    congr 2 <;> omega
  · rw [Morph.ext_of_outside (by simp only [inside, Prod.mk_add_mk]; omega)]
    simp only [vol]
    rw [wordAt_hUp f V (by omega) (by omega) (by omega), if_neg (by omega), hf _ (by omega)]

theorem isShift_hDown : IsShift b (0, -1, 0) (hDown f) := fun V ⟨d, h, w⟩ hp => by
  simp only [inside] at hp
  by_cases hc : 1 ≤ h
  · rw [Morph.ext_of_inside (by simp only [inside, Prod.mk_add_mk]; omega)]
    simp only [vol, Prod.mk_add_mk]
    rw [wordAt_hDown f V (by omega) (by omega) (by omega), if_pos (by omega)]
    congr 2 <;> omega
  · rw [Morph.ext_of_outside (by simp only [inside, Prod.mk_add_mk]; omega)]
    simp only [vol]
    rw [wordAt_hDown f V (by omega) (by omega) (by omega), if_neg (by omega), hf _ (by omega)]

theorem isShift_wUp : IsShift b (0, 0, 1) (wUp f) := fun V ⟨d, h, w⟩ hp => by
  simp only [inside] at hp
  by_cases hc : w + 1 < 160
  · rw [Morph.ext_of_inside (by simp only [inside, Prod.mk_add_mk]; omega)]
    simp only [vol, Prod.mk_add_mk]
    rw [wordAt_wUp f V (by omega) (by omega) (by omega), if_pos (by omega)]
    congr 2 <;> omega
  · rw [Morph.ext_of_outside (by simp only [inside, Prod.mk_add_mk]; omega)]
    simp only [vol]
    rw [wordAt_wUp f V (by omega) (by omega) (by omega), if_neg (by omega), hf _ (by omega)]

theorem isShift_wDown : IsShift b (0, 0, -1) (wDown f) := fun V ⟨d, h, w⟩ hp => by
  simp only [inside] at hp
  by_cases hc : 1 ≤ w
  · rw [Morph.ext_of_inside (by simp only [inside, Prod.mk_add_mk]; omega)]
    simp only [vol, Prod.mk_add_mk]
    rw [wordAt_wDown f V (by omega) (by omega) (by omega), if_pos (by omega)]
    congr 2 <;> omega
  · rw [Morph.ext_of_outside (by simp only [inside, Prod.mk_add_mk]; omega)]
    simp only [vol]
    rw [wordAt_wDown f V (by omega) (by omega) (by omega), if_neg (by omega), hf _ (by omega)]

theorem isShift_dUp : IsShift b (1, 0, 0) (dUp f) := fun V ⟨d, h, w⟩ hp => by
  simp only [inside] at hp
  have e : vol (dUp f V) (d, h, w) = (wordAt V (d.toNat / 32) h.toNat w.toNat >>> 1
      ||| (if d.toNat / 32 + 1 < 5 then wordAt V (d.toNat / 32 + 1) h.toNat w.toNat else f) <<< 31).getLsbD (d.toNat % 32) := by
    simp only [vol]
    rw [wordAt_dUp f V (by omega) (by omega) (by omega)]
  rw [e, BitVec.getLsbD_or, BitVec.getLsbD_ushiftRight, BitVec.getLsbD_shiftLeft]
  by_cases hc : d + 1 < 160
  · rw [Morph.ext_of_inside (by simp only [inside, Prod.mk_add_mk]; omega)]
    simp only [vol, Prod.mk_add_mk, add_zero]
    by_cases hb : d.toNat % 32 < 31
    · rw [show (d + 1).toNat / 32 = d.toNat / 32 by omega, show (d + 1).toNat % 32 = 1 + d.toNat % 32 by omega]
      simp [hb]
    · rw [show d.toNat % 32 = 31 by omega, BitVec.getLsbD_of_ge _ (1 + 31) (by omega), if_pos (by omega),
        show (d + 1).toNat / 32 = d.toNat / 32 + 1 by omega, show (d + 1).toNat % 32 = 0 by omega]
      simp
  · rw [Morph.ext_of_outside (by simp only [inside, Prod.mk_add_mk]; omega), if_neg (by omega), show d.toNat % 32 = 31 by omega,
      BitVec.getLsbD_of_ge _ (1 + 31) (by omega), ← hf 0 (by omega)]
    simp

theorem isShift_dDown : IsShift b (-1, 0, 0) (dDown f) := fun V ⟨d, h, w⟩ hp => by
  simp only [inside] at hp
  have e : vol (dDown f V) (d, h, w) = (wordAt V (d.toNat / 32) h.toNat w.toNat <<< 1
      ||| (if 1 ≤ d.toNat / 32 then wordAt V (d.toNat / 32 - 1) h.toNat w.toNat else f) >>> 31).getLsbD (d.toNat % 32) := by
    simp only [vol]
    rw [wordAt_dDown f V (by omega) (by omega) (by omega)]
  rw [e, BitVec.getLsbD_or, BitVec.getLsbD_ushiftRight, BitVec.getLsbD_shiftLeft]
  by_cases hc : 1 ≤ d
  · rw [Morph.ext_of_inside (by simp only [inside, Prod.mk_add_mk]; omega)]
    simp only [vol, Prod.mk_add_mk, add_zero]
    by_cases hb : 1 ≤ d.toNat % 32
    · rw [show (d + -1).toNat / 32 = d.toNat / 32 by omega, show (d + -1).toNat % 32 = d.toNat % 32 - 1 by omega,
        BitVec.getLsbD_of_ge _ (31 + d.toNat % 32) (by omega)]
      have h1 : ¬ d.toNat % 32 < 1 := by omega
      have h2 : d.toNat % 32 < 32 := by omega
      simp only [h1, h2, decide_true, decide_false, Bool.not_false, Bool.true_and, Bool.or_false]
    · rw [show d.toNat % 32 = 0 by omega, if_pos (by omega), show (d + -1).toNat / 32 = d.toNat / 32 - 1 by omega,
        show (d + -1).toNat % 32 = 31 by omega]
      simp
  · rw [Morph.ext_of_outside (by simp only [inside, Prod.mk_add_mk]; omega), if_neg (by omega), show d.toNat % 32 = 0 by omega, ← hf 31 (by omega)]
    simp

end IsShift

/-- A word-wise operation acts on each bit. -/
theorem wordAt_or (V W : Packed) (r h w : ℕ) : wordAt (ori V W) r h w = wordAt V r h w ||| wordAt W r h w := by
  unfold wordAt
  split
  · rfl
  · exact (BitVec.or_self).symm

theorem vol_or (V W : Packed) (p : Pos) : vol (ori V W) p = (vol V p || vol W p) := by
  unfold vol
  rw [wordAt_or, BitVec.getLsbD_or]

/-- One pass of a shift and its opposite is the OR of a line of three voxels. -/
theorem vol_pass {f : Bool} {u : Pos} {a b : Packed → Packed} (ha : IsShift f u a) (hb : IsShift f (-u) b) (V : Packed) :
    Agree (vol (pass a b V)) (line f u (vol V)) := fun p hp => by
  unfold pass line
  rw [vol_or, vol_or, ha V p hp, hb V p hp, Morph.ext_of_inside hp]

theorem agree_line {f : Bool} {u : Pos} {P Q : Pos → Bool} (h : Agree P Q) : line f u P = line f u Q := by
  funext p
  unfold line
  rw [h.ext f]

/-- Two passes along `u`, then `v`, are the dilation by the square they span. -/
theorem vol_passes {f : Bool} {u v : Pos} {a b c d : Packed → Packed} (ha : IsShift f u a) (hb : IsShift f (-u) b)
    (hc : IsShift f v c) (hd : IsShift f (-v) d) (h : Apart u v) (V : Packed) {P : Pos → Bool} (hP : Agree (vol V) P) :
    Agree (vol (pass c d (pass a b V))) (square f u v P) := fun p hp => by
  rw [vol_pass hc hd _ p hp, agree_line (vol_pass ha hb V), Morph.square_eq h f _ p hp, hP.square]

/-- The 18 passes are the nine dilations, the outside as the fill's bit. -/
theorem vol_chain {f : BitVec 32} {b : Bool} (hf : Const f b) (V : Packed) {P : Pos → Bool} (hP : Agree (vol V) P) :
    Agree (vol (chain f V)) (Morph.dilAll b P) := by
  have hu := isShift_hUp hf
  have hd := isShift_hDown hf
  have wu := isShift_wUp hf
  have wd := isShift_wDown hf
  have du := isShift_dUp hf
  have dd := isShift_dDown hf
  have h0 := vol_passes du dd hu hd (Morph.dirs_apart 0) V hP
  have h1 := vol_passes du dd wu wd (Morph.dirs_apart 1) _ h0
  have h2 := vol_passes hu hd wu wd (Morph.dirs_apart 2) _ h1
  have h3 := vol_passes du dd (wu.comp hu (by unfold Apart; decide)) (wd.comp hd (by unfold Apart; decide)) (Morph.dirs_apart 3) _ h2
  have h4 := vol_passes du dd (wd.comp hu (by unfold Apart; decide)) (wu.comp hd (by unfold Apart; decide)) (Morph.dirs_apart 4) _ h3
  have h5 := vol_passes hu hd (wu.comp du (by unfold Apart; decide)) (wd.comp dd (by unfold Apart; decide)) (Morph.dirs_apart 5).symm _ h4
  rw [Morph.square_comm] at h5
  have h6 := vol_passes hu hd (wd.comp du (by unfold Apart; decide)) (wu.comp dd (by unfold Apart; decide)) (Morph.dirs_apart 6).symm _ h5
  rw [Morph.square_comm] at h6
  have h7 := vol_passes wu wd (hu.comp du (by unfold Apart; decide)) (hd.comp dd (by unfold Apart; decide)) (Morph.dirs_apart 7).symm _ h6
  rw [Morph.square_comm] at h7
  have h8 := vol_passes wu wd (hd.comp du (by unfold Apart; decide)) (hu.comp dd (by unfold Apart; decide)) (Morph.dirs_apart 8).symm _ h7
  rw [Morph.square_comm] at h8
  exact h8

/-- A flip by a word of equal bits complements the volume, or leaves it. -/
theorem vol_flip {f : BitVec 32} {b : Bool} (hf : Const f b) (V : Packed) : ∀ p, inside p → vol (flip f V) p = (vol V p ^^ b) :=
  fun ⟨d, h, w⟩ hp => by
    simp only [inside] at hp
    simp only [vol]
    rw [wordAt_of (by omega) (by omega) (by omega), wordAt_of (by omega) (by omega) (by omega)]
    have hx : ∀ e, flip f V e = V e ^^^ f := fun _ => rfl
    rw [hx, BitVec.getLsbD_xor, hf _ (by omega)]

/-- An even entry: from the bits of `P`, the bits of its close. -/
theorem vol_morph_even {V : Packed} {P : Pos → Bool} (hP : Agree (vol V) P) : Agree (vol (morph 0#32 V)) (Morph.close P) := by
  have h1 := vol_chain const_zero V hP
  have h2 : Agree (vol (flip 4294967295#32 (chain 0#32 V))) (Morph.compl (Morph.dilAll false P)) := fun p hp => by
    rw [vol_flip const_ones _ p hp, h1 p hp, Bool.xor_true]
    rfl
  have h3 := vol_chain const_ones _ h2
  intro p hp
  show vol (flip 4294967295#32 (chain 4294967295#32 (flip 4294967295#32 (chain 0#32 V)))) p = _
  rw [vol_flip const_ones _ p hp, h3 p hp, Bool.xor_true]
  rfl

/-- An odd entry: from the complemented bits of `P`, the bits of its open. -/
theorem vol_morph_odd {V : Packed} {P : Pos → Bool} (hP : Agree (vol V) (Morph.compl P)) : Agree (vol (morph 1#32 V)) (Morph.openUp P) := by
  have h1 := vol_chain const_ones V hP
  have h2 : Agree (vol (flip 4294967295#32 (chain 4294967295#32 V))) (Morph.eroAll P) := fun p hp => by
    rw [vol_flip const_ones _ p hp, h1 p hp, Bool.xor_true]
    rfl
  have h3 := vol_chain const_zero _ h2
  intro p hp
  show vol (flip 0#32 (chain 0#32 (flip 4294967295#32 (chain 4294967295#32 V)))) p = _
  rw [vol_flip const_zero _ p hp, h3 p hp, Bool.xor_false]
  rfl

end Cert.KernelIdeal.Words
-- ==== Proof.UnpackAt.lean ====
/-
  What an unpacking step stores: at depth `j` of its block one or zero as bit `j` of the word at (row, column).
-/
module

public import proofs.«01_k».proof.Proof.Unpack
public import Idealize.ShloMosaic.Lib.Pointwise

@[expose] public section

set_option maxRecDepth 16384

noncomputable section

namespace Cert.KernelIdeal.Words

open Cert.KernelIdeal Cert.KernelIdeal.Gen
open Idealize.ShloMosaic

theorem slice_apply (W : IVec S160x160 32) (j : Fin 32) (h w : Fin 160) :
    slice Ideal W j (ix2 h w) = if (W (ix2 h w)).getLsbD j.val then (1 : EReal) else 0 := by
  pointwise [slice]
  have hn : IntOp.cmpi CmpIPredicate.ne (1#32 <<< j.val) 0#32 = 1#1 := by
    revert j
    decide
  have ha : IntOp.andi (W (ix2 h w)) (1#32 <<< j.val) = if (W (ix2 h w)).getLsbD j.val then 1#32 <<< j.val else 0#32 :=
    BitVec.and_twoPow (W (ix2 h w)) j.val
  rw [ha]
  cases (W (ix2 h w)).getLsbD j.val
  · rfl
  · rw [if_pos rfl, if_pos rfl, hn]
    rfl

theorem unpack_apply (R : IVec S1x160x160 32) (j : Fin 32) (h w : Fin 160) :
    unpack Ideal R (ix4 (0 : Fin 1) j h w) = if (R (ix3 (0 : Fin 1) h w)).getLsbD j.val then (1 : EReal) else 0 := by
  have e : unpack Ideal R (ix4 (0 : Fin 1) j h w) = slice Ideal (shapeCast S160x160 R shapeCasts_S1x160x160_S160x160) j (ix2 h w) := by
    unfold unpack
    generalize hC : concatenate S32x160x160 0 _ _ = C
    pointwise
  rw [e, slice_apply]
  have h' : shapeCast S160x160 R shapeCasts_S1x160x160_S160x160 (ix2 h w) = R (ix3 (0 : Fin 1) h w) := by pointwise
  rw [h']

end Cert.KernelIdeal.Words
-- ==== Proof.Pack.lean ====
/-
  What a packing step stores: the bit of depth `j` in the word at (row, column) is the thresholded input there, flipped
  where the entry's parity asks for it.
-/
module

public import proofs.«01_k».proof.Proof.Words
public import Idealize.ShloMosaic.Lib.Pointwise

@[expose] public section

set_option maxRecDepth 16384

noncomputable section

namespace Cert.KernelIdeal.Words

open Cert.KernelIdeal Cert.KernelIdeal.Gen
open Idealize.ShloMosaic

/-- The OR over the 32 depths of a block of words, by five halvings. -/
def fold32 (V : IVec S32x160x160 32) : IVec S160x160 32 :=
  let v40 := ori (extractStridedSlice S16x160x160 ![0, 0, 0] V slices_S32x160x160_o0_0_0_S16x160x160)
    (extractStridedSlice S16x160x160 ![16, 0, 0] V slices_S32x160x160_o16_0_0_S16x160x160)
  let v43 := ori (extractStridedSlice S8x160x160 ![0, 0, 0] v40 slices_S16x160x160_o0_0_0_S8x160x160)
    (extractStridedSlice S8x160x160 ![8, 0, 0] v40 slices_S16x160x160_o8_0_0_S8x160x160)
  let v46 := ori (extractStridedSlice S4x160x160 ![0, 0, 0] v43 slices_S8x160x160_o0_0_0_S4x160x160)
    (extractStridedSlice S4x160x160 ![4, 0, 0] v43 slices_S8x160x160_o4_0_0_S4x160x160)
  let v49 := ori (extractStridedSlice S2x160x160 ![0, 0, 0] v46 slices_S4x160x160_o0_0_0_S2x160x160)
    (extractStridedSlice S2x160x160 ![2, 0, 0] v46 slices_S4x160x160_o2_0_0_S2x160x160)
  shapeCast S160x160 (ori (extractStridedSlice S1x160x160 ![0, 0, 0] v49 slices_S2x160x160_o0_0_0_S1x160x160)
    (extractStridedSlice S1x160x160 ![1, 0, 0] v49 slices_S2x160x160_o1_0_0_S1x160x160)) shapeCasts_S1x160x160_S160x160

/-- The thresholded voxel, over the extended reals: `aux < 0`, or `aux = 0` and `inp ≠ 0`. -/
def thresh (inp aux : EReal) : Bool := decide (aux < 0) || (decide (aux = 0) && decide (inp ≠ 0))

/-- The block's thresholded voxels, each at its depth's bit. -/
def selected (X2 X3 : FVec Ideal S1x32x160x160 .f32) : IVec S32x160x160 32 :=
  let v20 := shapeCast S32x160x160 X2 shapeCasts_S1x32x160x160_S32x160x160
  let v22 := shapeCast S32x160x160 X3 shapeCasts_S1x32x160x160_S32x160x160
  let z := broadcast S32x160x160 (Scalar.ofBits (F := Ideal) .f32 0x00000000#32)
  select (ori (cmpf .olt v22 z) (andi (cmpf .oeq v22 z) (cmpf .one v20 z)))
    (broadcastTo S32x160x160 (shapeCast S32x1x1 (shli (broadcast S32x1x1 1#32) (iota .tc S32x1x1 32 [0] iota_S32x1x1_d0_w32))
      shapeCasts_S32x1x1_S32x1x1) broadcasts_S32x1x1_S32x160x160) (broadcast S32x160x160 0#32)

theorem pay4_eq (g : BitVec 32) (X2 X3 : FVec Ideal S1x32x160x160 .f32) : k0_pay4 (F := Ideal) g X2 X3
    = shapeCast S1x160x160 (xori (fold32 (selected X2 X3)) (broadcast S160x160 (Scalar.subi 0#32 g))) shapeCasts_S160x160_S1x160x160 := rfl

theorem selected_apply (X2 X3 : FVec Ideal S1x32x160x160 .f32) (j : Fin 32) (h w : Fin 160) : selected X2 X3 (ix3 j h w)
    = if thresh (X2 (ix4 (0 : Fin 1) j h w)) (X3 (ix4 (0 : Fin 1) j h w)) then 1#32 <<< j.val else 0#32 := by
  pointwise [selected]
  have hs : IntOp.shli ArithUnit.vector 1#32 (BitVec.ofNat 32 j.val) = 1#32 <<< j.val := by
    revert j
    decide
  rw [hs]
  unfold thresh
  generalize decide (X3 (ix4 (0 : Fin 1) j h w) < 0) = p
  generalize decide (X3 (ix4 (0 : Fin 1) j h w) = 0) = q
  generalize decide (X2 (ix4 (0 : Fin 1) j h w) ≠ 0) = r
  cases p <;> cases q <;> cases r <;> rfl

/-- One selected word's bits. -/
theorem bit_word (c : Bool) (j i : ℕ) (hi : i < 32) : (if c then 1#32 <<< j else 0#32).getLsbD i = (c && decide (i = j)) := by
  cases c
  · simp
  · rw [if_pos rfl, Bool.true_and, BitVec.getLsbD_shiftLeft, BitVec.getLsbD_one]
    by_cases hj : i = j
    · subst hj
      simp [hi]
    · by_cases hl : i < j
      · simp [hj, hl]
      · have : ¬ (i - j = 0) := by omega
        simp [hj, this]

/-- The folded word holds at each bit the selection of that depth. -/
theorem fold32_bit {V : IVec S32x160x160 32} {h w : Fin 160} {b : Fin 32 → Bool}
    (hV : ∀ j : Fin 32, V (ix3 j h w) = if b j then 1#32 <<< j.val else 0#32) (i : Fin 32) : (fold32 V (ix2 h w)).getLsbD i.val = b i := by
  pointwise [fold32]
  have ho : ∀ x y : BitVec 32, IntOp.ori x y = x ||| y := fun _ _ => rfl
  simp only [ho, BitVec.getLsbD_or, hV, bit_word _ _ _ i.isLt]
  fin_cases i <;> simp

/-- A packing step's word: bit `j` is the thresholded voxel at depth `j`, flipped by the parity word's bit. -/
theorem pack_bit {g : BitVec 32} {f : Bool} (hg : ∀ i < 32, (Scalar.subi 0#32 g).getLsbD i = f) (X2 X3 : FVec Ideal S1x32x160x160 .f32)
    (j : Fin 32) (h w : Fin 160) : (k0_pay4 (F := Ideal) g X2 X3 (ix3 (0 : Fin 1) h w)).getLsbD j.val
      = (thresh (X2 (ix4 (0 : Fin 1) j h w)) (X3 (ix4 (0 : Fin 1) j h w)) ^^ f) := by
  have e : k0_pay4 (F := Ideal) g X2 X3 (ix3 (0 : Fin 1) h w) = fold32 (selected X2 X3) (ix2 h w) ^^^ Scalar.subi 0#32 g := by
    rw [pay4_eq]
    generalize fold32 (selected X2 X3) = A
    pointwise
    rfl
  rw [e, BitVec.getLsbD_xor, hg _ j.isLt, fold32_bit fun j => selected_apply X2 X3 j h w]

end Cert.KernelIdeal.Words
-- ==== Proof.Stage.lean ====
/-
  One structuring element of the reference at the extended reals: from an array of zeros and ones, padded by a border of
  zeros, the maximum (minimum) of nine shifted slices is the array of zeros and ones of the dilated (eroded) volume.
-/
module

public import proofs.«01_k».proof.Proof.Gen.ReferenceIdeal
public import proofs.«01_k».proof.Proof.Morph
public import Idealize.ShloMosaic.Lib.Pointwise

@[expose] public section

set_option maxRecDepth 16384

noncomputable section

namespace Cert.ReferenceIdeal.Stage

open Cert.ReferenceIdeal Cert.ReferenceIdeal.Gen
open Idealize.ShloMosaic
open Cert.Morph (Pos inside ext square)

/-- A float array of the reference: one volume per batch entry. -/
abbrev Vols : Type := FVec Ideal S4x1x160x160x160 .f32

/-- A bit as an extended real. -/
def bit (b : Bool) : Ideal .f32 := if b then (1 : EReal) else (0 : EReal)

/-- The array shows the volume `P n` at each batch entry `n`. -/
def Shows (X : Vols) (P : Fin 4 → Pos → Bool) : Prop :=
  ∀ (n : Fin 4) (d h w : Fin 160), X (ix5 n (0 : Fin 1) d h w) = bit (P n (d.val, h.val, w.val))

/-- The array with a border of zeros around each volume. -/
def border (X : Vols) : FVec Ideal S4x1x162x162x162 .f32 :=
  pad S4x1x162x162x162 ![0, 0, 1, 1, 1] ![0, 0, 1, 1, 1] ![0, 0, 0, 0, 0] X (sitofp .f32 (constantI S_ 32 0#32))
    pads_S4x1x160x160x160_S4x1x162x162x162_000_000_110_110_110 h_S_

theorem border_apply {X : Vols} {P : Fin 4 → Pos → Bool} (hX : Shows X P) (n : Fin 4) (d h w : Fin 162) :
    border X (ix5 n (0 : Fin 1) d h w) = bit (ext false (P n) ((d.val : ℤ) - 1, (h.val : ℤ) - 1, (w.val : ℤ) - 1)) := by
  pointwise [border]
  by_cases hc : (1 ≤ d.val ∧ d.val - 1 < 160) ∧ (1 ≤ h.val ∧ h.val - 1 < 160) ∧ 1 ≤ w.val ∧ w.val - 1 < 160
  · rw [dif_pos hc, Morph.ext_of_inside (by simp only [inside]; omega)]
    refine (hX n ⟨d.val - 1, hc.1.2⟩ ⟨h.val - 1, hc.2.1.2⟩ ⟨w.val - 1, hc.2.2.2⟩).trans ?_
    rw [Int.natCast_sub hc.1.1, Int.natCast_sub hc.2.1.1, Int.natCast_sub hc.2.2.1]
    rfl
  · rw [dif_neg hc, Morph.ext_of_outside (by simp only [inside]; omega)]
    show ((((0#32).toInt : ℤ) : ℝ) : EReal) = (0 : EReal)
    simp

/-- The nine displacements `a u + b v` in the order of `square`. -/
def step (u v : Pos) : Fin 9 → Pos
  | 0 => -u + -v
  | 1 => -u
  | 2 => -u + v
  | 3 => -v
  | 4 => 0
  | 5 => v
  | 6 => u + -v
  | 7 => u
  | 8 => u + v

/-- The `k`-th slice's offset of the `n`-th element in the bordered array. -/
def off (n k : Fin 9) : ℕ × ℕ × ℕ :=
  let s := step (Morph.dirs n).1 (Morph.dirs n).2 k
  ((1 + s.1).toNat, (1 + s.2.1).toNat, (1 + s.2.2).toNat)

theorem off_le : ∀ n k, (off n k).1 ≤ 2 ∧ (off n k).2.1 ≤ 2 ∧ (off n k).2.2 ≤ 2 := by decide
theorem off_eq : ∀ n k, (((off n k).1 : ℤ) - 1, ((off n k).2.1 : ℤ) - 1, ((off n k).2.2 : ℤ) - 1)
    = step (Morph.dirs n).1 (Morph.dirs n).2 k := by decide

theorem off_slices (n k : Fin 9) : S4x1x162x162x162.Slices ![0, 0, (off n k).1, (off n k).2.1, (off n k).2.2] S4x1x160x160x160 := by
  revert n k
  decide

/-- The `k`-th slice of the `n`-th element. -/
def cut (n k : Fin 9) (B : FVec Ideal S4x1x162x162x162 .f32) : Vols :=
  extractStridedSlice S4x1x160x160x160 ![0, 0, (off n k).1, (off n k).2.1, (off n k).2.2] B (off_slices n k)

theorem cut_apply {X : Vols} {P : Fin 4 → Pos → Bool} (hX : Shows X P) (n k : Fin 9) (e : Fin 4) (d h w : Fin 160) :
    cut n k (border X) (ix5 e (0 : Fin 1) d h w)
      = bit (ext false (P e) (((d.val, h.val, w.val) : Pos) + step (Morph.dirs n).1 (Morph.dirs n).2 k)) := by
  have hl := off_le n k
  have hq : cut n k (border X) (ix5 e (0 : Fin 1) d h w) = border X (ix5 e (0 : Fin 1) (⟨(off n k).1 + d.val, by omega⟩ : Fin 162)
      (⟨(off n k).2.1 + h.val, by omega⟩ : Fin 162) (⟨(off n k).2.2 + w.val, by omega⟩ : Fin 162)) := by
    refine extractStridedSlice_apply _ _ _ _ _ fun a => ?_
    fin_cases a
    · exact (Nat.zero_add _).symm
    · rfl
    · rfl
    · rfl
    · rfl
  rw [hq, border_apply hX, ← off_eq n k]
  simp only [Prod.mk_add_mk]
  congr 3
  · push_cast; ring
  · congr 1
    · push_cast; ring
    · push_cast; ring

/-- Nine arrays joined left to right. -/
def nine (op : Vols → Vols → Vols) (x : Fin 9 → Vols) : Vols :=
  op (op (op (op (op (op (op (op (x 0) (x 1)) (x 2)) (x 3)) (x 4)) (x 5)) (x 6)) (x 7)) (x 8)

theorem max_bit (a b : Bool) : FloatOps.maximumf (F := Ideal) (bit a) (bit b) = bit (a || b) := by
  show max (bit a : EReal) (bit b) = _
  cases a <;> cases b <;> simp [bit]

theorem min_bit (a b : Bool) : FloatOps.minimumf (F := Ideal) (bit a) (bit b) = bit (a && b) := by
  show min (bit a : EReal) (bit b) = _
  cases a <;> cases b <;> simp [bit]

/-- The maximum of the nine slices shows the dilation. -/
theorem shows_max {X : Vols} {P : Fin 4 → Pos → Bool} (hX : Shows X P) (n : Fin 9) :
    Shows (nine (fun a b => maximumf a b) fun k => cut n k (border X)) (fun e => Morph.dil false n (P e)) := fun e d h w => by
  have hm : ∀ (a b : Vols) i, maximumf a b i = FloatOps.maximumf (a i) (b i) := fun _ _ _ => rfl
  simp only [nine, hm, cut_apply hX, max_bit]
  simp only [step, add_zero, ← add_assoc]
  rfl

theorem ext_compl (P : Pos → Bool) (q : Pos) : ext false P q = !ext true (Morph.compl P) q := by
  unfold ext Morph.compl
  split <;> simp

/-- The minimum of the nine slices shows the erosion. -/
theorem shows_min {X : Vols} {P : Fin 4 → Pos → Bool} (hX : Shows X P) (n : Fin 9) :
    Shows (nine (fun a b => minimumf a b) fun k => cut n k (border X)) (fun e => Morph.compl (Morph.dil true n (Morph.compl (P e)))) :=
  fun e d h w => by
    have hm : ∀ (a b : Vols) i, minimumf a b i = FloatOps.minimumf (a i) (b i) := fun _ _ _ => rfl
    simp only [nine, hm, cut_apply hX, min_bit]
    simp only [ext_compl, ← Bool.not_or]
    simp only [step, add_zero, ← add_assoc]
    rfl

/-- The nine maxima one after the other. -/
def maxAll (X : Vols) : Vols :=
  let st := fun n (X : Vols) => nine (fun a b => maximumf a b) fun k => cut n k (border X)
  st 8 (st 7 (st 6 (st 5 (st 4 (st 3 (st 2 (st 1 (st 0 X))))))))

/-- The nine minima one after the other. -/
def minAll (X : Vols) : Vols :=
  let st := fun n (X : Vols) => nine (fun a b => minimumf a b) fun k => cut n k (border X)
  st 8 (st 7 (st 6 (st 5 (st 4 (st 3 (st 2 (st 1 (st 0 X))))))))

theorem shows_maxAll {X : Vols} {P : Fin 4 → Pos → Bool} (hX : Shows X P) : Shows (maxAll X) (fun e => Morph.dilAll false (P e)) :=
  shows_max (shows_max (shows_max (shows_max (shows_max (shows_max (shows_max (shows_max (shows_max hX 0) 1) 2) 3) 4) 5) 6) 7) 8

theorem shows_minAll {X : Vols} {P : Fin 4 → Pos → Bool} (hX : Shows X P) : Shows (minAll X) (fun e => Morph.eroAll (P e)) := by
  have h := shows_min (shows_min (shows_min (shows_min (shows_min (shows_min (shows_min (shows_min (shows_min hX 0) 1) 2) 3) 4) 5) 6) 7) 8
  simp only [Morph.compl_compl] at h
  exact h

end Cert.ReferenceIdeal.Stage
-- ==== Proof.Result.lean ====
/-
  The common value of the two programs: every batch entry's mask, closed where the entry's number is even and opened where
  it is odd, as an array of zeros and ones.
-/
module

public import proofs.«01_k».proof.Proof.Pack
public import proofs.«01_k».proof.Proof.Stage

@[expose] public section

noncomputable section

namespace Cert.Result

open Idealize.ShloMosaic
open Cert.Morph (Pos)
open Cert.KernelIdeal.Words (thresh)
open Cert.ReferenceIdeal (S4x1x160x160x160)
open Cert.ReferenceIdeal.Stage (Vols bit)

/-- A coordinate as an index along one axis. -/
def axis (z : ℤ) : Fin 160 := Fin.ofNat 160 z.toNat

theorem axis_val (d : Fin 160) : axis (d.val : ℤ) = d := by
  refine Fin.ext ?_
  show ((d.val : ℤ).toNat) % 160 = d.val
  rw [Int.toNat_natCast]
  exact Nat.mod_eq_of_lt d.isLt

/-- The mask of batch entry `n`. -/
def mask (inp aux : Vols) (n : Fin 4) (p : Pos) : Bool :=
  thresh (inp (ix5 n (0 : Fin 1) (axis p.1) (axis p.2.1) (axis p.2.2)))
    (aux (ix5 n (0 : Fin 1) (axis p.1) (axis p.2.1) (axis p.2.2)))

theorem mask_val (inp aux : Vols) (n : Fin 4) (d h w : Fin 160) : mask inp aux n (d.val, h.val, w.val)
    = thresh (inp (ix5 n (0 : Fin 1) d h w)) (aux (ix5 n (0 : Fin 1) d h w)) := by
  simp only [mask, axis_val]

/-- The morphology of batch entry `n`. -/
def morphed (inp aux : Vols) (n : Fin 4) : Pos → Bool :=
  if n.val % 2 = 0 then Morph.close (mask inp aux n) else Morph.openUp (mask inp aux n)

/-- The value. -/
def out (inp aux : Vols) : Vols := fun x => bit (morphed inp aux (x 0) ((x 2).val, (x 3).val, (x 4).val))

end Cert.Result

end
-- ==== Proof.Equation.lean ====
/-
  The equation between the kernel's output blocks and the common value: where the input blocks are the arguments' blocks,
  the packed rows are the batch entry's mask (flipped for an odd entry), so the unpacked rows are its close or open.
-/
module

public import proofs.«01_k».proof.Proof.Trace
public import proofs.«01_k».proof.Proof.Planes
public import proofs.«01_k».proof.Proof.UnpackAt
public import proofs.«01_k».proof.Proof.Result

@[expose] public section

set_option maxRecDepth 16384

noncomputable section

namespace Cert.KernelIdeal.Body

open Cert.KernelIdeal Cert.KernelIdeal.Gen Cert.KernelIdeal.Words
open Idealize.ShloMosaic Idealize.ShloMosaic.TcCoe
open Cert.Morph (Pos inside Agree)
open Cert.Result (mask mask_val)
open Cert.ReferenceIdeal.Stage (Vols bit)

variable (m : (ℓ : Loc nD τ sig) → Buf (Elt Ideal) ℓ)

/-- The depth that bit `j` of word row `r` holds. -/
def depth (r : Fin 5) (j : Fin 32) : Fin 160 := ⟨32 * r.val + j.val, by omega⟩

/-- Batch entry `b`'s input blocks are the arguments' blocks of 32 depths. -/
def Blocks (inp aux : Vols) (c : Dev nD) (b : Fin 4) : Prop :=
  ∀ (r : Fin 5) (j : Fin 32) (h w : Fin 160),
    blkIn m c (pt b (rowPt r)) (ix4 (0 : Fin 1) j h w) = inp (ix5 b (0 : Fin 1) (depth r j) h w)
    ∧ blkAux m c (pt b (rowPt r)) (ix4 (0 : Fin 1) j h w) = aux (ix5 b (0 : Fin 1) (depth r j) h w)

theorem rowIx_ix3 (r : Fin 5) (h w : Fin 160) : rowIx (ix3 r h w) = ix3 (0 : Fin 1) h w :=
  funext fun
    | ⟨0, _⟩ => rfl
    | ⟨1, _⟩ => rfl
    | ⟨2, _⟩ => rfl

/-- A bit of the packed rows. -/
theorem rows_bit {inp aux : Vols} {c : Dev nD} {b : Fin 4} (hb : Blocks m inp aux c b) {f : Bool}
    (hf : ∀ i < 32, (Scalar.subi 0#32 (par b)).getLsbD i = f) (r : Fin 5) (j : Fin 32) (h w : Fin 160) :
    (rows m c b (ix3 r h w)).getLsbD j.val = (mask inp aux b ((depth r j).val, h.val, w.val) ^^ f) := by
  show (k0_pay4 (F := Ideal) (par b) (blkIn m c (pt b (rowPt r))) (blkAux m c (pt b (rowPt r))) (rowIx (ix3 r h w))).getLsbD j.val = _
  rw [rowIx_ix3, pack_bit hf, (hb r j h w).1, (hb r j h w).2, mask_val]

/-- The volume the packed rows hold. -/
theorem vol_rows {inp aux : Vols} {c : Dev nD} {b : Fin 4} (hb : Blocks m inp aux c b) {f : Bool}
    (hf : ∀ i < 32, (Scalar.subi 0#32 (par b)).getLsbD i = f) :
    Agree (vol (rows m c b)) fun p => mask inp aux b p ^^ f := by
  rintro ⟨d, h, w⟩ ⟨⟨d0, d1⟩, ⟨h0, h1⟩, ⟨w0, w1⟩⟩
  dsimp only at d0 d1 h0 h1 w0 w1
  lift d to ℕ using d0
  lift h to ℕ using h0
  lift w to ℕ using w0
  have hr : d / 32 < 5 := by omega
  have hj : d % 32 < 32 := by omega
  have hh : h < 160 := by omega
  have hw : w < 160 := by omega
  have e : (depth ⟨d / 32, hr⟩ ⟨d % 32, hj⟩).val = d := by
    show 32 * (d / 32) + d % 32 = d
    omega
  have k := rows_bit m hb hf ⟨d / 32, hr⟩ ⟨d % 32, hj⟩ ⟨h, hh⟩ ⟨w, hw⟩
  rw [e] at k
  simp only [vol, Int.toNat_natCast]
  rw [wordAt_of hr hh hw]
  exact k

theorem par_even {b : Fin 4} (h : b.val % 2 = 0) : par b = 0#32 := by unfold par; rw [h]
theorem par_odd {b : Fin 4} (h : b.val % 2 = 1) : par b = 1#32 := by unfold par; rw [h]

/-- The volume the batch entry's words hold after its close or open. -/
theorem vol_morphed {inp aux : Vols} {c : Dev nD} {b : Fin 4} (hb : Blocks m inp aux c b) :
    Agree (vol (morph (par b) (rows m c b))) (Result.morphed inp aux b) := by
  unfold Result.morphed
  rcases Nat.mod_two_eq_zero_or_one b.val with h | h
  · rw [if_pos h, par_even h]
    refine vol_morph_even fun p hp => ?_
    exact (vol_rows m hb (f := false) (by rw [par_even h]; decide) p hp).trans (Bool.xor_false _)
  · rw [if_neg (by omega : ¬ b.val % 2 = 0), par_odd h]
    refine vol_morph_odd fun p hp => ?_
    exact (vol_rows m hb (f := true) (by rw [par_odd h]; decide) p hp).trans (Bool.xor_true _)

/-- The stored words are the words. -/
theorem morphed_morph (c : Dev nD) (b : Fin 4) : morphed m c b = morph (par b) (rows m c b) := by
  unfold morphed
  rw [morphStored_eq, shapeCast_self]

theorem rowOf_ix3 (S : Packed) (r : Fin 5) (h w : Fin 160) : rowOf S r (ix3 (0 : Fin 1) h w) = S (ix3 r h w) :=
  congrArg S (funext fun
    | ⟨0, _⟩ => rfl
    | ⟨1, _⟩ => rfl
    | ⟨2, _⟩ => rfl)

theorem inside_val (d h w : Fin 160) : inside ((d.val, h.val, w.val) : Pos) :=
  ⟨⟨Int.natCast_nonneg _, Int.ofNat_lt.mpr d.isLt⟩, ⟨Int.natCast_nonneg _, Int.ofNat_lt.mpr h.isLt⟩,
    ⟨Int.natCast_nonneg _, Int.ofNat_lt.mpr w.isLt⟩⟩

/-- The volume of a packed array, at a depth given by its word row and bit. -/
theorem vol_depth (S : Packed) (r : Fin 5) (j : Fin 32) (h w : Fin 160) :
    vol S ((depth r j).val, h.val, w.val) = (S (ix3 r h w)).getLsbD j.val := by
  have e1 : (depth r j).val / 32 = r.val := by show (32 * r.val + j.val) / 32 = _; omega
  have e2 : (depth r j).val % 32 = j.val := by show (32 * r.val + j.val) % 32 = _; omega
  simp only [vol, Int.toNat_natCast]
  rw [e1, e2, wordAt_of r.isLt h.isLt w.isLt]

/-- An output block is its part of the common value. -/
theorem blkOut_out {inp aux : Vols} {c : Dev nD} {b : Fin 4} (hb : Blocks m inp aux c b) (k : Fin 10)
    (j : Fin 32) (h w : Fin 160) :
    blkOut m c (pt b k) (ix4 (0 : Fin 1) j h w) = Result.out inp aux (ix5 b (0 : Fin 1) (depth (stepRow k) j) h w) := by
  rw [blkOut_pt, unpack_apply, rowOf_ix3, morphed_morph, ← vol_depth, vol_morphed m hb _ (inside_val _ h w)]
  rfl

end Cert.KernelIdeal.Body
end
-- ==== Proof.Array.lean ====
/-
  The kernel's arrays at coordinates: the input blocks are the arguments' blocks of 32 depths, and the result array, block
  by block, is the common value.
-/
module

public import proofs.«01_k».proof.Proof.Run
public import proofs.«01_k».proof.Proof.Equation
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen Cert.KernelIdeal.Words
open Idealize.ShloMosaic Idealize.ShloMosaic.TcCoe Idealize.SL.Sem
open Cert.ReferenceIdeal.Stage (Vols)

variable (m : (ℓ : Loc nD τ sig) → Buf (Elt Ideal) ℓ) (ρ : Dev nD → PrngReg)

/-- The two arguments. -/
def inp (c : Dev nD) : Vols := m ((c : Thread nD τ).loc main_arg0)
@[inherit_doc inp] def aux (c : Dev nD) : Vols := m ((c : Thread nD τ).loc main_arg1)

/-! ## Where the blocks lie -/

theorem index_in (b : Fin 4) (r : Fin 5) : win0_0.index (pt b (rowPt r)) = ![b.val, r.val, 0, 0] := by
  revert b r; decide +kernel
theorem index_aux (b : Fin 4) (r : Fin 5) : win0_1.index (pt b (rowPt r)) = ![b.val, r.val, 0, 0] := by
  revert b r; decide +kernel
theorem index_out (b : Fin 4) (k : Fin 10) (h : 5 ≤ k.val) : win0_2.index (pt b k) = ![b.val, k.val - 5, 0, 0] := by
  revert b k; decide +kernel

/-- An array without the unit axis, at coordinates. -/
theorem drop_apply (X : Vols) (b : Fin 4) (d h w : Fin 160) :
    shapeCast S4x160x160x160 X shapeCasts_S4x1x160x160x160_S4x160x160x160 (ix4 b d h w) = X (ix5 b (0 : Fin 1) d h w) := by
  pointwise

/-- The unit axis put back, at coordinates. -/
theorem put_apply (Y : FVec Ideal S4x160x160x160 .f32) (b : Fin 4) (d h w : Fin 160) :
    shapeCast S4x1x160x160x160 Y shapeCasts_S4x160x160x160_S4x1x160x160x160 (ix5 b (0 : Fin 1) d h w) = Y (ix4 b d h w) := by
  pointwise

theorem put_drop (X : Vols) : shapeCast S4x1x160x160x160
    (shapeCast S4x160x160x160 X shapeCasts_S4x1x160x160x160_S4x160x160x160 : FVec Ideal S4x160x160x160 .f32)
    shapeCasts_S4x160x160x160_S4x1x160x160x160 = X := by
  funext x
  have h0 : (x 1).val < 1 := (x 1).isLt
  obtain ⟨b, d, h, w, rfl⟩ : ∃ (b : Fin 4) (d h w : Fin 160), x = ix5 b (0 : Fin 1) d h w :=
    ⟨x 0, x 2, x 3, x 4, funext fun
      | ⟨0, _⟩ => rfl
      | ⟨1, _⟩ => Fin.ext (by show (x 1).val = 0; omega)
      | ⟨2, _⟩ => rfl
      | ⟨3, _⟩ => rfl
      | ⟨4, _⟩ => rfl⟩
  rw [put_apply, drop_apply]

/-! ## The input blocks -/

theorem entry_in (c : Dev nD) : V m c main_v0 = shapeCast S4x160x160x160 (inp m c) shapeCasts_S4x1x160x160x160_S4x160x160x160 := by
  entry_read
  rfl
theorem entry_aux (c : Dev nD) : V m c main_v1 = shapeCast S4x160x160x160 (aux m c) shapeCasts_S4x1x160x160x160_S4x160x160x160 := by
  entry_read
  rfl

theorem emb_in (b : Fin 4) (r : Fin 5) (j : Fin 32) (h w : Fin 160) :
    (win0_0.blk (pt b (rowPt r))).view.emb (ix4 (0 : Fin 1) j h w) = ix4 b (depth r j) h w := by
  blk_ext [index_in b r, depth]

theorem emb_aux (b : Fin 4) (r : Fin 5) (j : Fin 32) (h w : Fin 160) :
    (win0_1.blk (pt b (rowPt r))).view.emb (ix4 (0 : Fin 1) j h w) = ix4 b (depth r j) h w := by
  blk_ext [index_aux b r, depth]

theorem blocks (c : Dev nD) (b : Fin 4) : Blocks m (inp m c) (aux m c) c b := by
  intro r j h w
  constructor
  · show V m c main_v0 ((win0_0.blk (pt b (rowPt r))).view.emb (ix4 (0 : Fin 1) j h w)) = _
    rw [emb_in, entry_in, drop_apply]
  · show V m c main_v1 ((win0_1.blk (pt b (rowPt r))).view.emb (ix4 (0 : Fin 1) j h w)) = _
    rw [emb_aux, entry_aux, drop_apply]

/-! ## The result array -/

theorem emb_out (b : Fin 4) (k : Fin 10) (hk : 5 ≤ k.val) (j : Fin 32) (h w : Fin 160) :
    (win0_2.blk (pt b k)).view.emb (ix4 (0 : Fin 1) j h w) = ix4 b (depth (stepRow k) j) h w := by
  blk_ext [index_out b k hk, depth, stepRow]

/-- The output array after the last point. -/
theorem arr_out (c : Dev nD) : (dats m 0 c).arrAt 2 cfg0.N
    = shapeCast S4x160x160x160 (Result.out (inp m c) (aux m c)) shapeCasts_S4x1x160x160x160_S4x160x160x160 := by
  refine (dats m 0 c).arrAt_eq_of_covers 2 _ (by decide +kernel) fun t hf y => ?_
  obtain ⟨b, k, rfl⟩ := pt_surj t
  have hk : 5 ≤ k.val := of_decide_eq_true ((flush_pt b k).symm.trans hf)
  blk_simp
  rw [after_out]
  obtain ⟨j, h, w, rfl⟩ : ∃ (j : Fin 32) (h w : Fin 160), y = ix4 (0 : Fin 1) j h w :=
    ⟨y 1, y 2, y 3, funext fun
      | ⟨0, _⟩ => Fin.ext (by have : (y 0).val < 1 := (y 0).isLt; show (y 0).val = 0; omega)
      | ⟨1, _⟩ => rfl
      | ⟨2, _⟩ => rfl
      | ⟨3, _⟩ => rfl⟩
  refine (blkOut_out m (blocks m c b) k j h w).trans ?_
  refine (drop_apply _ b (depth (stepRow k) j) h w).symm.trans ?_
  exact congrArg _ (emb_out b k hk j h w).symm

/-- The result is the output array with the unit axis put back. -/
theorem result (c : Dev nD) : Pipeline.afterTail₀ cfgs (dats m) 0 (V0 m) [hostOps1] c main_v3 = Result.out (inp m c) (aux m c) := by
  unfold Pipeline.afterTail₀
  show StableHlo.after hostOps1 _ (Proc.devRef .tc main_v3) = _
  rw [StableHlo.after_cons, StableHlo.after_nil, StableHlo.reshape_result]
  have e := Pipeline.withArrays_arr spec0 (by decide) c (V0 m c) (fun w => (dats m 0 c).arrAt w cfg0.N) 2
  have e' : Pipeline.withArrays spec0 c (V0 m c) (fun w => (dats m 0 c).arrAt w cfg0.N) (Proc.devRef .tc main_v2)
      = shapeCast S4x160x160x160 (Result.out (inp m c) (aux m c)) shapeCasts_S4x1x160x160x160_S4x160x160x160 :=
    e.trans (arr_out m c)
  funext x
  show shapeCast S4x1x160x160x160 (Pipeline.withArrays spec0 c (V0 m c) (fun w => (dats m 0 c).arrAt w cfg0.N) (Proc.devRef .tc main_v2))
    shapeCasts_S4x160x160x160_S4x1x160x160x160 x = _
  rw [e']
  exact congrFun (put_drop _) x

/-- The kernel's run: the result is the common value of the arguments, which it leaves as launched. -/
theorem run_value : θ_run defs (onTc (τ := τ) (main (F := Ideal))) ⟨m, fun _ => 0, ρ⟩ (fun r => ∀ c : Dev nD,
      r.2.mem ((c.tc : Thread nD τ).loc main_v3) = Result.out (inp m c) (aux m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v3 (Pipeline.mem_restRefs_of main_v3 (by decide) (by decide))).trans (result m c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩)
    (run_main m ρ)

end Cert.KernelIdeal.Body
end
-- ==== Proof.Line.lean ====
/-
  A straight line of host operations each of which writes the next buffer of the list and reads earlier ones only. Such a
  line's final contents satisfy every operation's equation: the result buffer holds the operation's function of what the
  operands hold at the END of the line, since no later operation writes any of them.
-/
module

public import Idealize.ShloMosaic.Lib.StableHlo.Run

@[expose] public section

noncomputable section

namespace Cert.Line

open Idealize.ShloMosaic Idealize.ShloMosaic.StableHlo

variable {τ : Topo} {sig : RefSig} {Val : EltTy → Type}

/-- The buffer's place in the list of buffers. -/
def slot (r : Ref sig .tc) : ℕ := r.idx.val

/-- The operation writes the buffer in place `n` and determines it from buffers in earlier places. -/
def Step (n : ℕ) (op : HloOp τ sig Val) : Prop :=
  op.fresh = ∅ ∧ op.bufs ⊆ tcRefs τ sig ∧ ∃ y : Ref sig .tc, slot y = n ∧ op.writes = {Proc.devRef .tc y} ∧
    ∀ F G : Valuation τ sig Val, (∀ x : Ref sig .tc, slot x < n → F (Proc.devRef .tc x) = G (Proc.devRef .tc x)) →
      op.result F (Proc.devRef .tc y) = op.result G (Proc.devRef .tc y)

/-- The operations write the places `n, n + 1, …` in order. -/
def Ordered : ℕ → List (HloOp τ sig Val) → Prop
  | _, [] => True
  | n, op :: ops => Step n op ∧ Ordered (n + 1) ops

/-- The contents satisfy the operation's equation. -/
def Holds (W : Valuation τ sig Val) (op : HloOp τ sig Val) : Prop :=
  ∀ b ∈ op.writes, W b = op.result W b

theorem Ordered.append {n m : ℕ} {l₁ l₂ : List (HloOp τ sig Val)} (h₁ : Ordered n l₁) (hm : n + l₁.length = m)
    (h₂ : Ordered m l₂) : Ordered n (l₁ ++ l₂) := by
  induction l₁ generalizing n with
  | nil => obtain rfl : n = m := hm; exact h₂
  | cons op l ih => exact ⟨h₁.1, ih h₁.2 (by rw [← hm, List.length_cons]; omega)⟩

theorem Ordered.step {n : ℕ} {ops : List (HloOp τ sig Val)} (h : Ordered n ops) : ∀ op ∈ ops, ∃ k, Step k op := by
  induction ops generalizing n with
  | nil => exact fun _ hm => nomatch hm
  | cons op l ih => exact fun o ho => (List.mem_cons.mp ho).elim (fun e => e ▸ ⟨n, h.1⟩) (ih h.2 o)

theorem Ordered.fresh {n : ℕ} {ops : List (HloOp τ sig Val)} (h : Ordered n ops) : ∀ op ∈ ops, op.fresh = ∅ :=
  fun op ho => (h.step op ho).choose_spec.1

theorem Ordered.bufs {n : ℕ} {ops : List (HloOp τ sig Val)} (h : Ordered n ops) :
    ops.Forall fun op => op.bufs ⊆ tcRefs τ sig :=
  List.forall_iff_forall_mem.mpr fun op ho => (h.step op ho).choose_spec.2.1

/-- Buffers in earlier places keep their contents. -/
theorem Ordered.keep {n : ℕ} {ops : List (HloOp τ sig Val)} (h : Ordered n ops) (V : Valuation τ sig Val)
    {r : Ref sig .tc} (hr : slot r < n) : after ops V (Proc.devRef .tc r) = V (Proc.devRef .tc r) := by
  induction ops generalizing n V with
  | nil => rfl
  | cons op l ih =>
    obtain ⟨-, -, y, hy, hw, -⟩ := h.1
    rw [after_cons, ih h.2 _ (by omega)]
    exact result_of_writes_ne op V y r hw fun e => by rw [e] at hr; omega

/-- The final contents satisfy every operation's equation. -/
theorem Ordered.holds {n : ℕ} {ops : List (HloOp τ sig Val)} (h : Ordered n ops) (V : Valuation τ sig Val) :
    ∀ op ∈ ops, Holds (after ops V) op := by
  induction ops generalizing n V with
  | nil => exact fun _ hm => nomatch hm
  | cons op l ih =>
    intro o ho
    rcases List.mem_cons.mp ho with e | ho
    · subst e
      obtain ⟨-, -, y, hy, hw, hc⟩ := h.1
      intro b hb
      rw [hw] at hb
      obtain rfl := Finset.mem_singleton.mp hb
      rw [after_cons, h.2.keep _ (by omega)]
      refine hc _ _ fun x hx => ?_
      rw [h.2.keep _ (by omega)]
      exact (result_of_writes_ne o V y x hw fun e => by rw [e] at hx; omega).symm
    · exact ih h.2 _ o ho

/-! ### The builders' operations -/

section Builders

variable {Tx Ta Tb Tc Ty : BufTy}

theorem step_nullary {n : ℕ} (y : Ref sig .tc) (v : y.ty.Contents Val) (hy) (hn : slot y = n) :
    Step n (nullary (τ := τ) y v hy) :=
  ⟨rfl, nullary_bufs_sub y v hy, y, hn, rfl, fun F G _ => by rw [nullary_result', nullary_result']⟩

theorem step_unary {n : ℕ} (x y : Ref sig .tc) (f : x.ty.Contents Val → y.ty.Contents Val) (hx hy) (hn : slot y = n)
    (h : slot x < n) : Step n (unary (τ := τ) x y f hx hy) :=
  ⟨rfl, unary_bufs_sub x y f hx hy, y, hn, rfl, fun F G e => by rw [unary_result', unary_result', e x h]⟩

theorem step_binary {n : ℕ} (a b y : Ref sig .tc) (f : a.ty.Contents Val → b.ty.Contents Val → y.ty.Contents Val)
    (ha hb hy) (hn : slot y = n) (h : slot a < n) (h' : slot b < n) : Step n (binary (τ := τ) a b y f ha hb hy) :=
  ⟨rfl, binary_bufs_sub a b y f ha hb hy, y, hn, rfl, fun F G e => by rw [binary_result', binary_result', e a h, e b h']⟩

theorem step_ternary {n : ℕ} (c a b y : Ref sig .tc)
    (f : c.ty.Contents Val → a.ty.Contents Val → b.ty.Contents Val → y.ty.Contents Val) (hc ha hb hy) (hn : slot y = n)
    (h : slot c < n) (h' : slot a < n) (h'' : slot b < n) : Step n (ternary (τ := τ) c a b y f hc ha hb hy) :=
  ⟨rfl, ternary_bufs_sub a b c y f hc ha hb hy, y, hn, rfl,
    fun F G e => by rw [ternary_result', ternary_result', e c h, e a h', e b h'']⟩

theorem step_reshape {n : ℕ} (x y : Ref sig .tc) (he hs hx hy) (hn : slot y = n) (h : slot x < n) :
    Step n (reshape (τ := τ) (Val := Val) x y he hs hx hy) :=
  ⟨rfl, reshape_bufs_sub x y he hs hx hy, y, hn, rfl, fun F G e => by rw [reshape_result', reshape_result', e x h]⟩

/-- What a typed reference's buffer holds. -/
def rd (W : Valuation τ sig Val) (x : TRef sig Tx) : Tx.Contents Val := x.ofBuf (W (Proc.devRef .tc x.ref))

theorem rd_of_eq {W : Valuation τ sig Val} (y : TRef sig Ty) {v : Ty.Contents Val}
    (h : W (Proc.devRef .tc y.ref) = y.toBuf v) : rd W y = v := by
  unfold rd
  rw [h]
  exact TRef.ofBuf_toBuf y v

theorem rd_nullary {W : Valuation τ sig Val} {y : TRef sig Ty} {v : Ty.Contents Val}
    (h : Holds W (TRef.nullary (τ := τ) y v)) : rd W y = v :=
  rd_of_eq y ((h _ (Finset.mem_singleton_self _)).trans (nullary_result' _ _ W))

theorem rd_unary {W : Valuation τ sig Val} {x : TRef sig Tx} {y : TRef sig Ty} {f : Tx.Contents Val → Ty.Contents Val}
    (h : Holds W (TRef.unary (τ := τ) x y f)) : rd W y = f (rd W x) :=
  rd_of_eq y ((h _ (Finset.mem_singleton_self _)).trans (unary_result' _ _ _ W))

theorem rd_binary {W : Valuation τ sig Val} {a : TRef sig Ta} {b : TRef sig Tb} {y : TRef sig Ty}
    {f : Ta.Contents Val → Tb.Contents Val → Ty.Contents Val} (h : Holds W (TRef.binary (τ := τ) a b y f)) :
    rd W y = f (rd W a) (rd W b) :=
  rd_of_eq y ((h _ (Finset.mem_singleton_self _)).trans (binary_result' _ _ _ _ W))

theorem rd_ternary {W : Valuation τ sig Val} {c : TRef sig Tc} {a : TRef sig Ta} {b : TRef sig Tb} {y : TRef sig Ty}
    {f : Tc.Contents Val → Ta.Contents Val → Tb.Contents Val → Ty.Contents Val}
    (h : Holds W (TRef.ternary (τ := τ) c a b y f)) : rd W y = f (rd W c) (rd W a) (rd W b) :=
  rd_of_eq y ((h _ (Finset.mem_singleton_self _)).trans (ternary_result' _ _ _ _ _ W))

end Builders

end Cert.Line

end
-- ==== Proof.Call.lean ====
/-
  One structuring element of the reference as a line of operations, and what it computes: the nine slices of the bordered
  operand joined by a maximum (minimum). The eighteen functions of the reference — nine elements, each with a maximum and
  with a minimum — are this one line at the nine elements' offsets.
-/
module

public import proofs.«01_k».proof.Proof.Stage
public import proofs.«01_k».proof.Proof.Line

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem Idealize.ShloMosaic.StableHlo
open Cert.Line

/-- One call's buffers: every element's function names the same ones. -/
abbrev Bufs : Type := fn_morph_step.Bufs

/-- A typed reference to a volume array. -/
abbrev VolRef : Type := TRef sig ⟨S4x1x160x160x160, .f32⟩

/-- A maximum or a minimum, elementwise. -/
abbrev Join : Type := Vols → Vols → Vols

def of1 (φ : fn_morph_step_1.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of2 (φ : fn_morph_step_2.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of3 (φ : fn_morph_step_3.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of4 (φ : fn_morph_step_4.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of5 (φ : fn_morph_step_5.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of6 (φ : fn_morph_step_6.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of7 (φ : fn_morph_step_7.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of8 (φ : fn_morph_step_8.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of9 (φ : fn_morph_step_9.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of10 (φ : fn_morph_step_10.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of11 (φ : fn_morph_step_11.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of12 (φ : fn_morph_step_12.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of13 (φ : fn_morph_step_13.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of14 (φ : fn_morph_step_14.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of15 (φ : fn_morph_step_15.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of16 (φ : fn_morph_step_16.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩
def of17 (φ : fn_morph_step_17.Bufs) : fn_morph_step.Bufs :=
  ⟨φ.c, φ.call0, φ.v1, φ.v2, φ.v3, φ.v4, φ.v5, φ.v6, φ.v7, φ.v8, φ.v9, φ.v10, φ.v11, φ.v12, φ.v13, φ.v14, φ.v15, φ.v16, φ.v17⟩

/-- The operations of one element's call. -/
def ops (op : Join) (n : Fin 9) (x : VolRef) (φ : Bufs) : List (HloOp τ sig (Elt Ideal)) :=
  [ TRef.nullary φ.c (constantI S_ 32 0#32),
    TRef.unary φ.c φ.call0.v0 (sitofp (F := Ideal) .f32),
    TRef.binary x φ.call0.v0 φ.call0.v1 (fun x v => pad S4x1x162x162x162 ![0, 0, 1, 1, 1] ![0, 0, 1, 1, 1] ![0, 0, 0, 0, 0] x v
      pads_S4x1x160x160x160_S4x1x162x162x162_000_000_110_110_110 h_S_),
    TRef.unary φ.call0.v1 φ.v1 (cut n 0),
    TRef.unary φ.call0.v1 φ.v2 (cut n 1),
    TRef.binary φ.v1 φ.v2 φ.v3 op,
    TRef.unary φ.call0.v1 φ.v4 (cut n 2),
    TRef.binary φ.v3 φ.v4 φ.v5 op,
    TRef.unary φ.call0.v1 φ.v6 (cut n 3),
    TRef.binary φ.v5 φ.v6 φ.v7 op,
    TRef.unary φ.call0.v1 φ.v8 (cut n 4),
    TRef.binary φ.v7 φ.v8 φ.v9 op,
    TRef.unary φ.call0.v1 φ.v10 (cut n 5),
    TRef.binary φ.v9 φ.v10 φ.v11 op,
    TRef.unary φ.call0.v1 φ.v12 (cut n 6),
    TRef.binary φ.v11 φ.v12 φ.v13 op,
    TRef.unary φ.call0.v1 φ.v14 (cut n 7),
    TRef.binary φ.v13 φ.v14 φ.v15 op,
    TRef.unary φ.call0.v1 φ.v16 (cut n 8),
    TRef.binary φ.v15 φ.v16 φ.v17 op ]

theorem ops_length (op : Join) (n : Fin 9) (x : VolRef) (φ : Bufs) : (ops op n x φ).length = 20 := rfl

/-- The call's buffers are the twenty places from `n`, in the order they are written. -/
def Placed (n : ℕ) (φ : Bufs) : Prop :=
  slot φ.c.ref = n + 0 ∧ slot φ.call0.v0.ref = n + 1 ∧ slot φ.call0.v1.ref = n + 2 ∧ slot φ.v1.ref = n + 3 ∧
    slot φ.v2.ref = n + 4 ∧ slot φ.v3.ref = n + 5 ∧ slot φ.v4.ref = n + 6 ∧ slot φ.v5.ref = n + 7 ∧
    slot φ.v6.ref = n + 8 ∧ slot φ.v7.ref = n + 9 ∧ slot φ.v8.ref = n + 10 ∧ slot φ.v9.ref = n + 11 ∧
    slot φ.v10.ref = n + 12 ∧ slot φ.v11.ref = n + 13 ∧ slot φ.v12.ref = n + 14 ∧ slot φ.v13.ref = n + 15 ∧
    slot φ.v14.ref = n + 16 ∧ slot φ.v15.ref = n + 17 ∧ slot φ.v16.ref = n + 18 ∧ slot φ.v17.ref = n + 19

theorem Placed.last {n : ℕ} {φ : Bufs} (h : Placed n φ) : slot φ.v17.ref = n + 19 := by
  obtain ⟨h0, h1, h2, h3, h4, h5, h6, h7, h8, h9, h10, h11, h12, h13, h14, h15, h16, h17, h18, h19⟩ := h
  exact h19

/-- An earlier place is below a later one. -/
theorem below {n a i : ℕ} (j : ℕ) (h : a = n + i) (hij : i < j := by decide) : a < n + j := by omega

theorem ops_ordered {op : Join} {e : Fin 9} {x : VolRef} {φ : Bufs} {n : ℕ} (h : Placed n φ) (hx : slot x.ref < n) :
    Ordered n (ops op e x φ) := by
  obtain ⟨h0, h1, h2, h3, h4, h5, h6, h7, h8, h9, h10, h11, h12, h13, h14, h15, h16, h17, h18, h19⟩ := h
  exact ⟨step_nullary _ _ _ h0, step_unary _ _ _ _ _ h1 (below 1 h0), step_binary _ _ _ _ _ _ _ h2 (Nat.lt_add_right 2 hx) (below 2 h1),
    step_unary _ _ _ _ _ h3 (below 3 h2), step_unary _ _ _ _ _ h4 (below 4 h2), step_binary _ _ _ _ _ _ _ h5 (below 5 h3) (below 5 h4),
    step_unary _ _ _ _ _ h6 (below 6 h2), step_binary _ _ _ _ _ _ _ h7 (below 7 h5) (below 7 h6),
    step_unary _ _ _ _ _ h8 (below 8 h2), step_binary _ _ _ _ _ _ _ h9 (below 9 h7) (below 9 h8),
    step_unary _ _ _ _ _ h10 (below 10 h2), step_binary _ _ _ _ _ _ _ h11 (below 11 h9) (below 11 h10),
    step_unary _ _ _ _ _ h12 (below 12 h2), step_binary _ _ _ _ _ _ _ h13 (below 13 h11) (below 13 h12),
    step_unary _ _ _ _ _ h14 (below 14 h2), step_binary _ _ _ _ _ _ _ h15 (below 15 h13) (below 15 h14),
    step_unary _ _ _ _ _ h16 (below 16 h2), step_binary _ _ _ _ _ _ _ h17 (below 17 h15) (below 17 h16),
    step_unary _ _ _ _ _ h18 (below 18 h2), step_binary _ _ _ _ _ _ _ h19 (below 19 h17) (below 19 h18), trivial⟩

/-- The call's result, at the end of any line the call is part of. -/
theorem ops_value {op : Join} {n : Fin 9} {x : VolRef} {φ : Bufs} {W : Valuation τ sig (Elt Ideal)}
    (h : ∀ o ∈ ops op n x φ, Holds W o) : rd W φ.v17 = nine op fun k => cut n k (border (rd W x)) := by
  simp only [ops, List.forall_mem_cons] at h
  obtain ⟨h0, h1, h2, h3, h4, h5, h6, h7, h8, h9, h10, h11, h12, h13, h14, h15, h16, h17, h18, h19, -⟩ := h
  have e1 := rd_unary h1
  rw [rd_nullary h0] at e1
  have e2 : rd W φ.call0.v1 = border (rd W x) := by rw [rd_binary h2, e1]; rfl
  rw [rd_binary h19, rd_binary h17, rd_binary h15, rd_binary h13, rd_binary h11, rd_binary h9, rd_binary h7, rd_binary h5,
    rd_unary h3, rd_unary h4, rd_unary h6, rd_unary h8, rd_unary h10, rd_unary h12, rd_unary h14, rd_unary h16, rd_unary h18, e2]
  rfl

/-! ### The nine elements in turn -/

/-- The operations of nine calls, each on the one before's result. -/
def chain (op : Join) (x : VolRef) (Φ : Fin 9 → Bufs) : List (HloOp τ sig (Elt Ideal)) :=
  ops op 0 x (Φ 0) ++ (ops op 1 (Φ 0).v17 (Φ 1) ++ (ops op 2 (Φ 1).v17 (Φ 2) ++ (ops op 3 (Φ 2).v17 (Φ 3) ++
    (ops op 4 (Φ 3).v17 (Φ 4) ++ (ops op 5 (Φ 4).v17 (Φ 5) ++ (ops op 6 (Φ 5).v17 (Φ 6) ++ (ops op 7 (Φ 6).v17 (Φ 7) ++
    ops op 8 (Φ 7).v17 (Φ 8))))))))

theorem chain_length (op : Join) (x : VolRef) (Φ : Fin 9 → Bufs) : (chain op x Φ).length = 180 := rfl

theorem chain_ordered {op : Join} {x : VolRef} {Φ : Fin 9 → Bufs} {n : ℕ} (h : ∀ k : Fin 9, Placed (n + 20 * k.val) (Φ k))
    (hx : slot x.ref < n) : Ordered n (chain op x Φ) := by
  have l := fun k => (h k).last
  have p : ∀ (k j : Fin 9), j.val + 1 = k.val → slot (Φ j).v17.ref < n + 20 * k.val := fun k j e => by
    rw [l j]; omega
  exact (ops_ordered (h 0) hx).append rfl ((ops_ordered (h 1) (p 1 0 rfl)).append rfl ((ops_ordered (h 2) (p 2 1 rfl)).append rfl
    ((ops_ordered (h 3) (p 3 2 rfl)).append rfl ((ops_ordered (h 4) (p 4 3 rfl)).append rfl
    ((ops_ordered (h 5) (p 5 4 rfl)).append rfl ((ops_ordered (h 6) (p 6 5 rfl)).append rfl
    ((ops_ordered (h 7) (p 7 6 rfl)).append rfl (ops_ordered (h 8) (p 8 7 rfl)))))))))

theorem chain_value {op : Join} {x : VolRef} {Φ : Fin 9 → Bufs} {W : Valuation τ sig (Elt Ideal)}
    (h : ∀ o ∈ chain op x Φ, Holds W o) :
    rd W (Φ 8).v17 = (List.finRange 9).foldl (fun X n => nine op fun k => cut n k (border X)) (rd W x) := by
  simp only [chain, List.forall_mem_append] at h
  obtain ⟨h0, h1, h2, h3, h4, h5, h6, h7, h8⟩ := h
  rw [ops_value h8, ops_value h7, ops_value h6, ops_value h5, ops_value h4, ops_value h3, ops_value h2, ops_value h1,
    ops_value h0]
  rfl

end Cert.ReferenceIdeal.Stage

end
-- ==== Proof.RefLine.lean ====
/-
  The reference's `main` is one line of operations: the thresholds, the four chains of nine structuring elements — the
  closing's maxima and minima, the opening's minima and maxima —, and the choice by the batch entry's parity.
-/
module

public import proofs.«01_k».proof.Proof.Call

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem Idealize.ShloMosaic.StableHlo
open Cert.Line

theorem body0 (x : VolRef) (φ : fn_morph_step.Bufs) :
    fn_morph_step.body (F := Ideal) x φ = seq (ops maximumf 0 x φ) := rfl
theorem body1 (x : VolRef) (φ : fn_morph_step_1.Bufs) :
    fn_morph_step_1.body (F := Ideal) x φ = seq (ops maximumf 1 x (of1 φ)) := rfl
theorem body2 (x : VolRef) (φ : fn_morph_step_2.Bufs) :
    fn_morph_step_2.body (F := Ideal) x φ = seq (ops maximumf 2 x (of2 φ)) := rfl
theorem body3 (x : VolRef) (φ : fn_morph_step_3.Bufs) :
    fn_morph_step_3.body (F := Ideal) x φ = seq (ops maximumf 3 x (of3 φ)) := rfl
theorem body4 (x : VolRef) (φ : fn_morph_step_4.Bufs) :
    fn_morph_step_4.body (F := Ideal) x φ = seq (ops maximumf 4 x (of4 φ)) := rfl
theorem body5 (x : VolRef) (φ : fn_morph_step_5.Bufs) :
    fn_morph_step_5.body (F := Ideal) x φ = seq (ops maximumf 5 x (of5 φ)) := rfl
theorem body6 (x : VolRef) (φ : fn_morph_step_6.Bufs) :
    fn_morph_step_6.body (F := Ideal) x φ = seq (ops maximumf 6 x (of6 φ)) := rfl
theorem body7 (x : VolRef) (φ : fn_morph_step_7.Bufs) :
    fn_morph_step_7.body (F := Ideal) x φ = seq (ops maximumf 7 x (of7 φ)) := rfl
theorem body8 (x : VolRef) (φ : fn_morph_step_8.Bufs) :
    fn_morph_step_8.body (F := Ideal) x φ = seq (ops maximumf 8 x (of8 φ)) := rfl
theorem body9 (x : VolRef) (φ : fn_morph_step_9.Bufs) :
    fn_morph_step_9.body (F := Ideal) x φ = seq (ops minimumf 0 x (of9 φ)) := rfl
theorem body10 (x : VolRef) (φ : fn_morph_step_10.Bufs) :
    fn_morph_step_10.body (F := Ideal) x φ = seq (ops minimumf 1 x (of10 φ)) := rfl
theorem body11 (x : VolRef) (φ : fn_morph_step_11.Bufs) :
    fn_morph_step_11.body (F := Ideal) x φ = seq (ops minimumf 2 x (of11 φ)) := rfl
theorem body12 (x : VolRef) (φ : fn_morph_step_12.Bufs) :
    fn_morph_step_12.body (F := Ideal) x φ = seq (ops minimumf 3 x (of12 φ)) := rfl
theorem body13 (x : VolRef) (φ : fn_morph_step_13.Bufs) :
    fn_morph_step_13.body (F := Ideal) x φ = seq (ops minimumf 4 x (of13 φ)) := rfl
theorem body14 (x : VolRef) (φ : fn_morph_step_14.Bufs) :
    fn_morph_step_14.body (F := Ideal) x φ = seq (ops minimumf 5 x (of14 φ)) := rfl
theorem body15 (x : VolRef) (φ : fn_morph_step_15.Bufs) :
    fn_morph_step_15.body (F := Ideal) x φ = seq (ops minimumf 6 x (of15 φ)) := rfl
theorem body16 (x : VolRef) (φ : fn_morph_step_16.Bufs) :
    fn_morph_step_16.body (F := Ideal) x φ = seq (ops minimumf 7 x (of16 φ)) := rfl
theorem body17 (x : VolRef) (φ : fn_morph_step_17.Bufs) :
    fn_morph_step_17.body (F := Ideal) x φ = seq (ops minimumf 8 x (of17 φ)) := rfl

/-- The calls of the closing's maxima. -/
def closeMax : Fin 9 → Bufs :=
  ![main_call2, of1 main_call3, of2 main_call4, of3 main_call5, of4 main_call6, of5 main_call7, of6 main_call8, of7 main_call9, of8 main_call10]
/-- The calls of the closing's minima. -/
def closeMin : Fin 9 → Bufs :=
  ![of9 main_call11, of10 main_call12, of11 main_call13, of12 main_call14, of13 main_call15, of14 main_call16, of15 main_call17, of16 main_call18, of17 main_call19]
/-- The calls of the opening's minima. -/
def openMin : Fin 9 → Bufs :=
  ![of9 main_call20, of10 main_call21, of11 main_call22, of12 main_call23, of13 main_call24, of14 main_call25, of15 main_call26, of16 main_call27, of17 main_call28]
/-- The calls of the opening's maxima. -/
def openMax : Fin 9 → Bufs :=
  ![main_call29, of1 main_call30, of2 main_call31, of3 main_call32, of4 main_call33, of5 main_call34, of6 main_call35, of7 main_call36, of8 main_call37]

/-- The operations before the chains. -/
def pre : List (HloOp τ sig (Elt Ideal)) :=
  [ TRef.nullary (.of main_cst) (constant (F := Ideal) S_ .f32 0x00000000#32),
    TRef.unary (.of main_cst : TRef sig ⟨S_, .f32⟩) (.of main_v0) (broadcastInDim S4x1x160x160x160 ![] bcast_S_S4x1x160x160x160),
    TRef.binary (.of main_arg1) (.of main_v0) (.of main_v1) (cmpf (F := Ideal) (s := S4x1x160x160x160) (φ := .f32) .olt),
    TRef.nullary (.of main_cst_0) (constant (F := Ideal) S_ .f32 0x00000000#32),
    TRef.unary (.of main_cst_0 : TRef sig ⟨S_, .f32⟩) (.of main_v2) (broadcastInDim S4x1x160x160x160 ![] bcast_S_S4x1x160x160x160),
    TRef.binary (.of main_arg1) (.of main_v2) (.of main_v3) (cmpf (F := Ideal) (s := S4x1x160x160x160) (φ := .f32) .ogt),
    TRef.nullary (.of main_cst_1) (constant (F := Ideal) S_ .f32 0x00000000#32),
    TRef.unary (.of main_cst_1 : TRef sig ⟨S_, .f32⟩) main_call0.v0 (broadcastInDim S4x1x160x160x160 ![] bcast_S_S4x1x160x160x160),
    TRef.ternary (.of main_v3) main_call0.v0 (.of main_arg0) main_call0.v1 select,
    TRef.nullary (.of main_cst_2) (constant (F := Ideal) S_ .f32 0x3F800000#32),
    TRef.unary (.of main_cst_2 : TRef sig ⟨S_, .f32⟩) main_call1.v0 (broadcastInDim S4x1x160x160x160 ![] bcast_S_S4x1x160x160x160),
    TRef.ternary (.of main_v1) main_call1.v0 (.of main_v4) main_call1.v1 select,
    TRef.nullary (.of main_cst_3) (constant (F := Ideal) S_ .f32 0x00000000#32),
    TRef.unary (.of main_cst_3 : TRef sig ⟨S_, .f32⟩) (.of main_v6) (broadcastInDim S4x1x160x160x160 ![] bcast_S_S4x1x160x160x160),
    TRef.binary (.of main_v5) (.of main_v6) (.of main_v7) (cmpf (F := Ideal) (s := S4x1x160x160x160) (φ := .f32) .une),
    TRef.unary (.of main_v7) (.of main_v8) (uitofp (F := Ideal) .f32) ]

/-- The operations after the chains. -/
def post : List (HloOp τ sig (Elt Ideal)) :=
  [ TRef.nullary (.of main_v45) (iotaInDim S4 32 0),
    TRef.nullary (.of main_c) (constantI S_ 32 2#32),
    TRef.unary (.of main_c : TRef sig ⟨S_, .i32⟩) main_call38.v0 id,
    TRef.nullary main_call38.c (constantI S_ 32 0#32),
    TRef.binary main_call38.v0 main_call38.c main_call38.v1 (cmpi .eq),
    TRef.nullary main_call38.c_0 (constantI S_ 32 1#32),
    TRef.ternary main_call38.v1 main_call38.c_0 main_call38.v0 main_call38_call0.v0 select,
    TRef.unary main_call38_call0.v0 main_call38.v3 (broadcastInDim S4 ![] bcast_S_S4),
    TRef.binary (.of main_v45) main_call38.v3 main_call38.v4 Host.remsi,
    TRef.nullary main_call38.c_1 (constantI S_ 32 0#32),
    TRef.unary main_call38.c_1 main_call38.v5 (broadcastInDim S4 ![] bcast_S_S4),
    TRef.binary main_call38.v4 main_call38.v5 main_call38.v6 (cmpi .ne),
    TRef.nullary main_call38.c_2 (constantI S_ 32 0#32),
    TRef.unary main_call38.c_2 main_call38.v7 (broadcastInDim S4 ![] bcast_S_S4),
    TRef.binary main_call38.v4 main_call38.v7 main_call38.v8 (cmpi .slt),
    TRef.nullary main_call38.c_3 (constantI S_ 32 0#32),
    TRef.binary main_call38_call0.v0 main_call38.c_3 main_call38.v9 (cmpi .slt),
    TRef.unary main_call38.v9 main_call38.v10 (broadcastInDim S4 ![] bcast_S_S4),
    TRef.binary main_call38.v8 main_call38.v10 main_call38.v11 (cmpi .ne),
    TRef.binary main_call38.v11 main_call38.v6 main_call38.v12 andi,
    TRef.unary main_call38_call0.v0 main_call38.v13 (broadcastInDim S4 ![] bcast_S_S4),
    TRef.binary main_call38.v4 main_call38.v13 main_call38.v14 addi,
    TRef.ternary main_call38.v12 main_call38.v14 main_call38.v4 main_call38.v15 select,
    TRef.nullary (.of main_c_4) (constantI S_ 32 0#32),
    TRef.unary (.of main_c_4 : TRef sig ⟨S_, .i32⟩) (.of main_v47) (broadcastInDim S4 ![] bcast_S_S4),
    TRef.binary (.of main_v46) (.of main_v47) (.of main_v48) (cmpi .eq),
    StableHlo.reshape main_v48 main_v49 (rfl : (.i1 : EltTy) = .i1) shapeCasts_S4_S4x1x1x1x1,
    TRef.unary (.of main_v49 : TRef sig ⟨S4x1x1x1x1, .i1⟩) main_call39.v0
      (broadcastInDim S4x1x160x160x160 ![0, 1, 2, 3, 4] bcast_S4x1x1x1x1_S4x1x160x160x160_0_1_2_3_4),
    TRef.ternary main_call39.v0 (.of main_v26) (.of main_v44) main_call39.v1 select ]

/-- The whole line. -/
def line : List (HloOp τ sig (Elt Ideal)) :=
  pre ++ (chain maximumf (.of main_v8) closeMax ++ (chain minimumf (.of main_v17) closeMin ++
    (chain minimumf (.of main_v8) openMin ++ (chain maximumf (.of main_v35) openMax ++ post))))

theorem pre_ordered : Ordered 3 pre := by
  refine ⟨step_nullary _ _ _ ?_, step_unary _ _ _ _ _ ?_ ?_, step_binary _ _ _ _ _ _ _ ?_ ?_ ?_,
    step_nullary _ _ _ ?_, step_unary _ _ _ _ _ ?_ ?_, step_binary _ _ _ _ _ _ _ ?_ ?_ ?_,
    step_nullary _ _ _ ?_, step_unary _ _ _ _ _ ?_ ?_, step_ternary _ _ _ _ _ _ _ _ _ ?_ ?_ ?_ ?_,
    step_nullary _ _ _ ?_, step_unary _ _ _ _ _ ?_ ?_, step_ternary _ _ _ _ _ _ _ _ _ ?_ ?_ ?_ ?_,
    step_nullary _ _ _ ?_, step_unary _ _ _ _ _ ?_ ?_, step_binary _ _ _ _ _ _ _ ?_ ?_ ?_,
    step_unary _ _ _ _ _ ?_ ?_, trivial⟩ <;> decide

theorem post_ordered : Ordered 739 post := by
  refine ⟨step_nullary _ _ _ ?_, step_nullary _ _ _ ?_, step_unary _ _ _ _ _ ?_ ?_, step_nullary _ _ _ ?_,
    step_binary _ _ _ _ _ _ _ ?_ ?_ ?_, step_nullary _ _ _ ?_, step_ternary _ _ _ _ _ _ _ _ _ ?_ ?_ ?_ ?_,
    step_unary _ _ _ _ _ ?_ ?_, step_binary _ _ _ _ _ _ _ ?_ ?_ ?_, step_nullary _ _ _ ?_,
    step_unary _ _ _ _ _ ?_ ?_, step_binary _ _ _ _ _ _ _ ?_ ?_ ?_, step_nullary _ _ _ ?_,
    step_unary _ _ _ _ _ ?_ ?_, step_binary _ _ _ _ _ _ _ ?_ ?_ ?_, step_nullary _ _ _ ?_,
    step_binary _ _ _ _ _ _ _ ?_ ?_ ?_, step_unary _ _ _ _ _ ?_ ?_, step_binary _ _ _ _ _ _ _ ?_ ?_ ?_,
    step_binary _ _ _ _ _ _ _ ?_ ?_ ?_, step_unary _ _ _ _ _ ?_ ?_, step_binary _ _ _ _ _ _ _ ?_ ?_ ?_,
    step_ternary _ _ _ _ _ _ _ _ _ ?_ ?_ ?_ ?_, step_nullary _ _ _ ?_, step_unary _ _ _ _ _ ?_ ?_,
    step_binary _ _ _ _ _ _ _ ?_ ?_ ?_, step_reshape _ _ _ _ _ _ ?_ ?_, step_unary _ _ _ _ _ ?_ ?_,
    step_ternary _ _ _ _ _ _ _ _ _ ?_ ?_ ?_ ?_, trivial⟩ <;> decide

theorem closeMax_placed : ∀ k : Fin 9, Placed (19 + 20 * k.val) (closeMax k) := by unfold Placed; decide
theorem closeMin_placed : ∀ k : Fin 9, Placed (199 + 20 * k.val) (closeMin k) := by unfold Placed; decide
theorem openMin_placed : ∀ k : Fin 9, Placed (379 + 20 * k.val) (openMin k) := by unfold Placed; decide
theorem openMax_placed : ∀ k : Fin 9, Placed (559 + 20 * k.val) (openMax k) := by unfold Placed; decide

theorem line_ordered : Ordered 3 line := by
  refine pre_ordered.append (m := 19) rfl (Ordered.append (m := 199) (chain_ordered closeMax_placed ?_) rfl
    (Ordered.append (m := 379) (chain_ordered closeMin_placed ?_) rfl (Ordered.append (m := 559) (chain_ordered openMin_placed ?_) rfl
      (Ordered.append (m := 739) (chain_ordered openMax_placed ?_) rfl post_ordered)))) <;> decide

end Cert.ReferenceIdeal.Stage

end
-- ==== Proof.RefMain.lean ====
/-
  The reference's `main` is the line of operations of `RefLine`.
-/
module

public import proofs.«01_k».proof.Proof.RefLine

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem Idealize.ShloMosaic.StableHlo
open Cert.Line

theorem main_eq (c : Dev nD) : main (F := Ideal) c = seq line := by
  simp -implicitDefEqProofs only [main, body0, body1, body2, body3, body4, body5, body6, body7, body8, body9, body10, body11, body12, body13,
    body14, body15, body16, body17, fn_where.body, fn_where_0.body, fn_remainder.body, fn_where_18.body, fn_where_19.body,
    line, seq_append, chain, pre, post, seq, bind_assoc, pure_bind]
  rfl

end Cert.ReferenceIdeal.Stage

end
-- ==== Proof.RefRun.lean ====
/-
  The reference's run: its arguments unchanged, its result the closed or opened masks.
-/
module

public import proofs.«01_k».proof.Proof.RefMain
public import proofs.«01_k».proof.Proof.Result
public import proofs.«01_k».proof.Defs

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem Idealize.ShloMosaic.StableHlo
open Cert.Line
open Cert.Morph (Pos)
open Cert.KernelIdeal.Words (thresh)
open Cert.Result (mask)

theorem scopedRefs_eq : (Finset.univ.filter fun b : Ref sig .tc => b.isScoped) = ∅ := by decide +kernel
theorem scopedSems_eq : (Finset.univ.filter fun sm : SemLoc sig => sm.isScoped .tc) = ∅ := by decide

/-- The thresholds as an array of zeros and ones. -/
def marks (inp aux : Vols) : Vols :=
  uitofp .f32 (cmpf .une
    (select (cmpf .olt aux (broadcastInDim S4x1x160x160x160 ![] bcast_S_S4x1x160x160x160 (constant (F := Ideal) S_ .f32 0x00000000#32)))
      (broadcastInDim S4x1x160x160x160 ![] bcast_S_S4x1x160x160x160 (constant (F := Ideal) S_ .f32 0x3F800000#32))
      (select (cmpf .ogt aux (broadcastInDim S4x1x160x160x160 ![] bcast_S_S4x1x160x160x160 (constant (F := Ideal) S_ .f32 0x00000000#32)))
        (broadcastInDim S4x1x160x160x160 ![] bcast_S_S4x1x160x160x160 (constant (F := Ideal) S_ .f32 0x00000000#32)) inp))
    (broadcastInDim S4x1x160x160x160 ![] bcast_S_S4x1x160x160x160 (constant (F := Ideal) S_ .f32 0x00000000#32)))

theorem shows_marks (inp aux : Vols) : Shows (marks inp aux) (mask inp aux) := by
  intro n d h w
  rw [Result.mask_val]
  pointwise [marks]
  generalize inp (ix5 n (0 : Fin 1) d h w) = i
  generalize aux (ix5 n (0 : Fin 1) d h w) = a
  have hb : ∀ b : Bool, FloatOps.uitofp (F := Ideal) FTy.f32 (BitVec.ofBool b) = bit b := by
    intro b
    cases b
    · show ((((0#1).toNat : ℕ) : ℝ) : EReal) = (0 : EReal)
      simp
    · show ((((1#1).toNat : ℕ) : ℝ) : EReal) = (1 : EReal)
      simp
  rw [hb]
  refine congrArg bit ?_
  show decide ((if (a : EReal) < 0 then (1 : EReal) else if 0 < (a : EReal) then (0 : EReal) else (i : EReal)) ≠ 0) = thresh i a
  unfold thresh
  rcases lt_trichotomy (a : EReal) 0 with ha | ha | ha
  · simp [ha]
  · simp [ha]
  · simp [ha, not_lt_of_gt ha, ne_of_gt ha]

/-- Which batch entries are even. -/
def evens : IVec S4 1 :=
  let two := select (cmpi .eq (id (constantI S_ 32 2#32)) (constantI S_ 32 0#32)) (constantI S_ 32 1#32) (id (constantI S_ 32 2#32))
  let rem := Host.remsi (iotaInDim S4 32 0) (broadcastInDim S4 ![] bcast_S_S4 two)
  cmpi .eq (select (andi (cmpi .ne (cmpi .slt rem (broadcastInDim S4 ![] bcast_S_S4 (constantI S_ 32 0#32)))
        (broadcastInDim S4 ![] bcast_S_S4 (cmpi .slt two (constantI S_ 32 0#32))))
      (cmpi .ne rem (broadcastInDim S4 ![] bcast_S_S4 (constantI S_ 32 0#32))))
      (addi rem (broadcastInDim S4 ![] bcast_S_S4 two)) rem)
    (broadcastInDim S4 ![] bcast_S_S4 (constantI S_ 32 0#32))

theorem evens_apply (n : Fin 4) : evens (ix1 n) = if n.val % 2 = 0 then 1#1 else 0#1 := by
  fin_cases n <;> rfl

/-- The choice between two arrays by the batch entry's parity. -/
def choose (A B : Vols) : Vols :=
  select (broadcastInDim S4x1x160x160x160 ![0, 1, 2, 3, 4] bcast_S4x1x1x1x1_S4x1x160x160x160_0_1_2_3_4
    (shapeCast S4x1x1x1x1 evens shapeCasts_S4_S4x1x1x1x1)) A B

theorem choose_apply (A B : Vols) (n : Fin 4) (d h w : Fin 160) : choose A B (ix5 n (0 : Fin 1) d h w)
    = if n.val % 2 = 0 then A (ix5 n (0 : Fin 1) d h w) else B (ix5 n (0 : Fin 1) d h w) := by
  pointwise [choose]
  rw [evens_apply]
  split <;> rfl

/-- The line's result. -/
theorem value (V : Valuation τ sig (Elt Ideal)) :
    rd (after line V) (.of main_v50 : VolRef)
      = Result.out (rd V (.of main_arg0 : VolRef)) (rd V (.of main_arg1 : VolRef)) := by
  have h := line_ordered.holds V
  have ka : rd (after line V) (.of main_arg0 : VolRef) = rd V (.of main_arg0 : VolRef) :=
    congrArg (TRef.ofBuf (.of main_arg0 : VolRef)) (line_ordered.keep V (r := main_arg0) (by decide))
  have kb : rd (after line V) (.of main_arg1 : VolRef) = rd V (.of main_arg1 : VolRef) :=
    congrArg (TRef.ofBuf (.of main_arg1 : VolRef)) (line_ordered.keep V (r := main_arg1) (by decide))
  rw [← ka, ← kb]
  generalize after line V = W at h ⊢
  simp only [line, List.forall_mem_append] at h
  obtain ⟨hp, h1, h2, h3, h4, hq⟩ := h
  have hm : rd W (.of main_v8 : VolRef) = marks (rd W (.of main_arg0 : VolRef)) (rd W (.of main_arg1 : VolRef)) := by
    simp only [pre, List.forall_mem_cons] at hp
    obtain ⟨p0, p1, p2, p3, p4, p5, p6, p7, p8, p9, p10, p11, p12, p13, p14, p15, -⟩ := hp
    rw [rd_unary p15, rd_binary p14, rd_unary p13, rd_nullary p12, rd_ternary p11, rd_unary p10, rd_nullary p9, rd_ternary p8,
      rd_unary p7, rd_nullary p6, rd_binary p5, rd_unary p4, rd_nullary p3, rd_binary p2, rd_unary p1, rd_nullary p0]
    rfl
  have e1 : rd W (.of main_v17 : VolRef) = maxAll (rd W (.of main_v8 : VolRef)) := chain_value h1
  have e2 : rd W (.of main_v26 : VolRef) = minAll (rd W (.of main_v17 : VolRef)) := chain_value h2
  have e3 : rd W (.of main_v35 : VolRef) = minAll (rd W (.of main_v8 : VolRef)) := chain_value h3
  have e4 : rd W (.of main_v44 : VolRef) = maxAll (rd W (.of main_v35 : VolRef)) := chain_value h4
  have hs : rd W (.of main_v50 : VolRef) = choose (rd W (.of main_v26 : VolRef)) (rd W (.of main_v44 : VolRef)) := by
    simp only [post, List.forall_mem_cons] at hq
    obtain ⟨q0, q1, q2, q3, q4, q5, q6, q7, q8, q9, q10, q11, q12, q13, q14, q15, q16, q17, q18, q19, q20, q21, q22, q23, q24, q25, q26, q27, q28, -⟩ := hq
    have q26' : rd W (.of main_v49 : TRef sig ⟨S4x1x1x1x1, .i1⟩) = shapeCast S4x1x1x1x1 (rd W (.of main_v48 : TRef sig ⟨S4, .i1⟩))
        shapeCasts_S4_S4x1x1x1x1 :=
      (q26 _ (Finset.mem_singleton_self _)).trans (reshape_result' _ _ _ _ W)
    rw [rd_ternary q28, rd_unary q27, q26', rd_binary q25, rd_unary q24, rd_nullary q23, rd_ternary q22, rd_binary q21, rd_unary q20, rd_binary q19, rd_binary q18, rd_unary q17, rd_binary q16, rd_nullary q15, rd_binary q14, rd_unary q13, rd_nullary q12, rd_binary q11, rd_unary q10, rd_nullary q9, rd_binary q8, rd_unary q7, rd_ternary q6, rd_nullary q5, rd_binary q4, rd_nullary q3, rd_unary q2, rd_nullary q1, rd_nullary q0]
    rfl
  generalize rd W (.of main_arg0 : VolRef) = inp at *
  generalize rd W (.of main_arg1 : VolRef) = aux at *
  have s := shows_marks inp aux
  rw [← hm] at s
  have sc := shows_minAll (shows_maxAll s)
  rw [← e1, ← e2] at sc
  have so := shows_maxAll (shows_minAll s)
  rw [← e3, ← e4] at so
  funext x
  obtain ⟨n, z, d, h, w, rfl⟩ : ∃ (n : Fin 4) (z : Fin 1) (d h w : Fin 160), x = ix5 n z d h w :=
    ⟨x 0, x 1, x 2, x 3, x 4, (ix5_eta x).symm⟩
  obtain rfl : z = 0 := Subsingleton.elim _ _
  rw [hs, choose_apply, sc n d h w, so n d h w]
  show _ = bit (Result.morphed inp aux n (d.val, h.val, w.val))
  unfold Result.morphed
  split <;> rfl

/-- Every buffer after the run. -/
theorem run_line (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b)
        = after line (launchContents m c) (Proc.devRef .tc b) :=
  run_seq scopedRefs_eq scopedSems_eq defs main (fun _ => line) main_eq (fun _ => line_ordered.bufs) m ρ
    fun _ => line_ordered.fresh

/-- The run's result and arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
          = Result.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v50).trans (value (launchContents m c)),
      (h c main_arg0).trans (line_ordered.keep (launchContents m c) (r := main_arg0) (by decide)),
      (h c main_arg1).trans (line_ordered.keep (launchContents m c) (r := main_arg1) (by decide)),
      (h c main_arg2).trans (line_ordered.keep (launchContents m c) (r := main_arg2) (by decide))⟩)
    (run_line m ρ)

/-- The reference's frame. -/
theorem quiescent : Cert.quiescent_ReferenceIdeal := by
  intro m ρ _
  exact (θ_run defs _ _).mono (fun r h => ⟨fun c => (h c).2, sem_eq_zero_of_no_sems (by decide) r.2⟩) (run m ρ)

end Cert.ReferenceIdeal.Stage

end
-- ==== Proof.lean ====
/-
  The proof of `Cert.Claim`. The kernel's frames are in Frames.lean, the reference's in RefRun.lean. At the extended reals
  both programs end with the value Result.lean names: the kernel by Array.lean, the reference by RefRun.lean.
-/
module

public import proofs.«01_k».proof.Defs
public import proofs.«01_k».proof.Proof.Frames
public import proofs.«01_k».proof.Proof.Array
public import proofs.«01_k».proof.Proof.RefRun

@[expose] public section

set_option maxRecDepth 16384

noncomputable section

namespace Cert.Proof

open Idealize.ShloMosaic Idealize.SL.Sem

/-- From memories agreeing on the arguments both programs end with the common value of the kernel's arguments. -/
theorem algebraic : @Cert.algebraic_KernelIdeal_ReferenceIdeal Cert.KernelIdeal.Gen.facts Cert.ReferenceIdeal.Gen.facts := by
  intro m g m' g' _ h
  refine ⟨fun c => Result.out (Cert.KernelIdeal.Body.inp m c) (Cert.KernelIdeal.Body.aux m c),
    Cert.KernelIdeal.Body.run_value m g, (θ_run _ _ _).mono (fun _ hr c => ?_) (Cert.ReferenceIdeal.Stage.run m' g')⟩
  obtain ⟨hv, h0, h1, h2⟩ := hr c
  refine ⟨hv.trans ?_, h0, h1, h2⟩
  exact congrArg₂ Result.out (h c).1 (h c).2.1

theorem claim : Cert.Claim := ⟨Cert.Kernel.Gen.facts, Cert.KernelIdeal.Gen.facts, Cert.ReferenceIdeal.Gen.facts,
  Cert.Frames.kernel, Cert.Frames.kernelIdeal, Cert.ReferenceIdeal.Stage.quiescent, trivial, algebraic⟩

end Cert.Proof

end
